-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "floor" .f32 0xC2B00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v80) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x8192x1536 : Shape := ⟨3, ![2, 8192, 1536]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S2x8192x512 : Shape := ⟨3, ![2, 8192, 512]⟩
abbrev S1x128x512 : Shape := ⟨3, ![1, 128, 512]⟩
abbrev S1x8192x512 : Shape := ⟨3, ![1, 8192, 512]⟩
abbrev S4x256x128 : Shape := ⟨3, ![4, 256, 128]⟩
abbrev S128x128 : Shape := ⟨2, ![128, 128]⟩
abbrev S256x128 : Shape := ⟨2, ![256, 128]⟩
abbrev S1x128x128 : Shape := ⟨3, ![1, 128, 128]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 39
  | .vmem => 9
  | .smem => 0
  | _ => 0

abbrev bufTy : (tb : Table) → Fin (tcTables nBuf tb) → BufTy
  | .hbm, ⟨0, _⟩ => ⟨S2x8192x1536, .bf16⟩
  | .hbm, ⟨1, _⟩ => ⟨S256, .i32⟩
  | .hbm, ⟨2, _⟩ => ⟨S256x1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S_, .i32⟩
  | .hbm, ⟨15, _⟩ => ⟨S256x1, .i32⟩
  | .hbm, ⟨16, _⟩ => ⟨S256x1, .i1⟩
  | .hbm, ⟨17, _⟩ => ⟨S_, .i32⟩
  | .hbm, ⟨18, _⟩ => ⟨S_, .i1⟩
  | .hbm, ⟨19, _⟩ => ⟨S256x1, .i1⟩
  | .hbm, ⟨20, _⟩ => ⟨S256x1, .i1⟩
  | .hbm, ⟨21, _⟩ => ⟨S256x1, .i1⟩
  | .hbm, ⟨22, _⟩ => ⟨S256x1, .i32⟩
  | .hbm, ⟨23, _⟩ => ⟨S256x1, .i32⟩
  | .hbm, ⟨24, _⟩ => ⟨S256x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i1⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S_, .i1⟩
  | .hbm, ⟨34, _⟩ => ⟨S256x256, .i1⟩
  | .hbm, ⟨35, _⟩ => ⟨S256x256, .i1⟩
  | .hbm, ⟨36, _⟩ => ⟨S256x256, .i1⟩
  | .hbm, ⟨37, _⟩ => ⟨S256x256, .bf16⟩
  | .hbm, ⟨38, _⟩ => ⟨S2x8192x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S256x256, .bf16⟩
  | .local _ .vmem, ⟨5, _⟩ => ⟨S1x128x512, .bf16⟩
  | .local _ .vmem, ⟨6, _⟩ => ⟨S1x128x512, .bf16⟩
  | .local _ .vmem, ⟨7, _⟩ => ⟨S4x256x128, .f32⟩
  | .local _ .vmem, ⟨8, _⟩ => ⟨S4x256x128, .f32⟩
  | _, _ => ⟨S2x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32 : BitVec 32 := 128#32
  let v11 : BitVec 32 := Scalar.muli arg1 c128_i32
  v11
def k0_mult2 (i : grid0.Coords) : BitVec 32 :=
  let arg1 : BitVec 32 := BitVec.ofNat 32 (i 1).val
  let c1_i32_1 : BitVec 32 := 1#32
  let v13 : BitVec 32 := Scalar.subi arg1 c1_i32_1
  let c0_i32 : BitVec 32 := 0#32
  let v14 : BitVec 32 := Scalar.maxsi v13 c0_i32
  let c128_i32_2 : BitVec 32 := 128#32
  let v15 : BitVec 32 := Scalar.muli v14 c128_i32_2
  v15
def k0_off1 (i : grid0.Coords) : Fin 3 → Nat :=
  let c0_6 : Index := 0#32
  let arg1 : BitVec 32 := BitVec.ofNat 32 (i 1).val
  let c128_i32 : BitVec 32 := 128#32
  let v11 : BitVec 32 := Scalar.muli arg1 c128_i32
  let v12 : BitVec 32 := v11
  let v23 : Index := Scalar.indexCast v12
  let c0_7 : Index := 0#32
  ![0, v23.toNat, 0]
def k0_off2 (i : grid0.Coords) : Fin 3 → Nat :=
  let c0_19 : Index := 0#32
  let arg1 : BitVec 32 := BitVec.ofNat 32 (i 1).val
  let c1_i32_1 : BitVec 32 := 1#32
  let v13 : BitVec 32 := Scalar.subi arg1 c1_i32_1
  let c0_i32 : BitVec 32 := 0#32
  let v14 : BitVec 32 := Scalar.maxsi v13 c0_i32
  let c128_i32_2 : BitVec 32 := 128#32
  let v15 : BitVec 32 := Scalar.muli v14 c128_i32_2
  let v16 : BitVec 32 := v15
  let v59 : Index := Scalar.indexCast v16
  let c0_20 : Index := 0#32
  ![0, v59.toNat, 0]
def k0_mult3 (arg9 : BitVec 32) : BitVec 32 :=
  let c128_i32_175 : BitVec 32 := 128#32
  let v433 : BitVec 32 := Scalar.muli arg9 c128_i32_175
  v433

def k0_off3 (arg9 : BitVec 32) : Fin 3 → Nat :=
  let c0_176 : Index := 0#32
  let c128_i32_175 : BitVec 32 := 128#32
  let v433 : BitVec 32 := Scalar.muli arg9 c128_i32_175
  let v434 : BitVec 32 := v433
  let v435 : Index := Scalar.indexCast v434
  let c0_177 : Index := 0#32
  ![0, v435.toNat, 0]

def k0_chk1 (arg9 : BitVec 32) : Prop :=
  (128 ∣ (k0_mult3 arg9).toNat) ∧
  (∀ a, (k0_off3 arg9) a + S1x128x128.size a ≤ S1x8192x512.size a)
theorem k0_mult3_dvd : ∀ (arg9 : BitVec 32) (k0_hw1 : k0_chk1 arg9), 128 ∣ (k0_mult3 arg9).toNat := fun arg9 k0_hw1 => k0_hw1.1
theorem k0_off3_inb : ∀ (arg9 : BitVec 32) (k0_hw1 : k0_chk1 arg9), ∀ a, (k0_off3 arg9) a + S1x128x128.size a ≤ S1x8192x512.size a := fun arg9 k0_hw1 => k0_hw1.2

def k0_off4 (i : grid0.Coords) : Fin 3 → Nat :=
  let c0_49 : Index := 0#32
  let arg1 : BitVec 32 := BitVec.ofNat 32 (i 1).val
  let c128_i32 : BitVec 32 := 128#32
  let v11 : BitVec 32 := Scalar.muli arg1 c128_i32
  let v12 : BitVec 32 := v11
  let v127 : Index := Scalar.indexCast v12
  let c128_50 : Index := 128#32
  ![0, v127.toNat, 128]
def k0_off5 (i : grid0.Coords) : Fin 3 → Nat :=
  let c0_62 : Index := 0#32
  let arg1 : BitVec 32 := BitVec.ofNat 32 (i 1).val
  let c1_i32_1 : BitVec 32 := 1#32
  let v13 : BitVec 32 := Scalar.subi arg1 c1_i32_1
  let c0_i32 : BitVec 32 := 0#32
  let v14 : BitVec 32 := Scalar.maxsi v13 c0_i32
  let c128_i32_2 : BitVec 32 := 128#32
  let v15 : BitVec 32 := Scalar.muli v14 c128_i32_2
  let v16 : BitVec 32 := v15
  let v163 : Index := Scalar.indexCast v16
  let c128_63 : Index := 128#32
  ![0, v163.toNat, 128]
def k0_mult4 (arg9 : BitVec 32) : BitVec 32 :=
  let c128_i32_175 : BitVec 32 := 128#32
  let v433 : BitVec 32 := Scalar.muli arg9 c128_i32_175
  v433

def k0_off6 (arg9 : BitVec 32) : Fin 3 → Nat :=
  let c0_176 : Index := 0#32
  let c128_i32_175 : BitVec 32 := 128#32
  let v433 : BitVec 32 := Scalar.muli arg9 c128_i32_175
  let v434 : BitVec 32 := v433
  let v435 : Index := Scalar.indexCast v434
  let c128_177 : Index := 128#32
  ![0, v435.toNat, 128]

def k0_chk2 (arg9 : BitVec 32) : Prop :=
  (128 ∣ (k0_mult4 arg9).toNat) ∧
  (∀ a, (k0_off6 arg9) a + S1x128x128.size a ≤ S1x8192x512.size a)
theorem k0_mult4_dvd : ∀ (arg9 : BitVec 32) (k0_hw2 : k0_chk2 arg9), 128 ∣ (k0_mult4 arg9).toNat := fun arg9 k0_hw2 => k0_hw2.1
theorem k0_off6_inb : ∀ (arg9 : BitVec 32) (k0_hw2 : k0_chk2 arg9), ∀ a, (k0_off6 arg9) a + S1x128x128.size a ≤ S1x8192x512.size a := fun arg9 k0_hw2 => k0_hw2.2

def k0_off7 (i : grid0.Coords) : Fin 3 → Nat :=
  let c0_92 : Index := 0#32
  let arg1 : BitVec 32 := BitVec.ofNat 32 (i 1).val
  let c128_i32 : BitVec 32 := 128#32
  let v11 : BitVec 32 := Scalar.muli arg1 c128_i32
  let v12 : BitVec 32 := v11
  let v231 : Index := Scalar.indexCast v12
  let c256_93 : Index := 256#32
  ![0, v231.toNat, 256]
def k0_off8 (i : grid0.Coords) : Fin 3 → Nat :=
  let c0_105 : Index := 0#32
  let arg1 : BitVec 32 := BitVec.ofNat 32 (i 1).val
  let c1_i32_1 : BitVec 32 := 1#32
  let v13 : BitVec 32 := Scalar.subi arg1 c1_i32_1
  let c0_i32 : BitVec 32 := 0#32
  let v14 : BitVec 32 := Scalar.maxsi v13 c0_i32
  let c128_i32_2 : BitVec 32 := 128#32
  let v15 : BitVec 32 := Scalar.muli v14 c128_i32_2
  let v16 : BitVec 32 := v15
  let v267 : Index := Scalar.indexCast v16
  let c256_106 : Index := 256#32
  ![0, v267.toNat, 256]
def k0_mult5 (arg9 : BitVec 32) : BitVec 32 :=
  let c128_i32_175 : BitVec 32 := 128#32
  let v433 : BitVec 32 := Scalar.muli arg9 c128_i32_175
  v433

def k0_off9 (arg9 : BitVec 32) : Fin 3 → Nat :=
  let c0_176 : Index := 0#32
  let c128_i32_175 : BitVec 32 := 128#32
  let v433 : BitVec 32 := Scalar.muli arg9 c128_i32_175
  let v434 : BitVec 32 := v433
  let v435 : Index := Scalar.indexCast v434
  let c256_177 : Index := 256#32
  ![0, v435.toNat, 256]

def k0_chk3 (arg9 : BitVec 32) : Prop :=
  (128 ∣ (k0_mult5 arg9).toNat) ∧
  (∀ a, (k0_off9 arg9) a + S1x128x128.size a ≤ S1x8192x512.size a)
theorem k0_mult5_dvd : ∀ (arg9 : BitVec 32) (k0_hw3 : k0_chk3 arg9), 128 ∣ (k0_mult5 arg9).toNat := fun arg9 k0_hw3 => k0_hw3.1
theorem k0_off9_inb : ∀ (arg9 : BitVec 32) (k0_hw3 : k0_chk3 arg9), ∀ a, (k0_off9 arg9) a + S1x128x128.size a ≤ S1x8192x512.size a := fun arg9 k0_hw3 => k0_hw3.2

def k0_off10 (i : grid0.Coords) : Fin 3 → Nat :=
  let c0_135 : Index := 0#32
  let arg1 : BitVec 32 := BitVec.ofNat 32 (i 1).val
  let c128_i32 : BitVec 32 := 128#32
  let v11 : BitVec 32 := Scalar.muli arg1 c128_i32
  let v12 : BitVec 32 := v11
  let v335 : Index := Scalar.indexCast v12
  let c384_136 : Index := 384#32
  ![0, v335.toNat, 384]
def k0_off11 (i : grid0.Coords) : Fin 3 → Nat :=
  let c0_148 : Index := 0#32
  let arg1 : BitVec 32 := BitVec.ofNat 32 (i 1).val
  let c1_i32_1 : BitVec 32 := 1#32
  let v13 : BitVec 32 := Scalar.subi arg1 c1_i32_1
  let c0_i32 : BitVec 32 := 0#32
  let v14 : BitVec 32 := Scalar.maxsi v13 c0_i32
  let c128_i32_2 : BitVec 32 := 128#32
  let v15 : BitVec 32 := Scalar.muli v14 c128_i32_2
  let v16 : BitVec 32 := v15
  let v371 : Index := Scalar.indexCast v16
  let c384_149 : Index := 384#32
  ![0, v371.toNat, 384]
def k0_mult6 (arg9 : BitVec 32) : BitVec 32 :=
  let c128_i32_175 : BitVec 32 := 128#32
  let v433 : BitVec 32 := Scalar.muli arg9 c128_i32_175
  v433

def k0_off12 (arg9 : BitVec 32) : Fin 3 → Nat :=
  let c0_176 : Index := 0#32
  let c128_i32_175 : BitVec 32 := 128#32
  let v433 : BitVec 32 := Scalar.muli arg9 c128_i32_175
  let v434 : BitVec 32 := v433
  let v435 : Index := Scalar.indexCast v434
  let c384_177 : Index := 384#32
  ![0, v435.toNat, 384]

def k0_chk4 (arg9 : BitVec 32) : Prop :=
  (128 ∣ (k0_mult6 arg9).toNat) ∧
  (∀ a, (k0_off12 arg9) a + S1x128x128.size a ≤ S1x8192x512.size a)
theorem k0_mult6_dvd : ∀ (arg9 : BitVec 32) (k0_hw4 : k0_chk4 arg9), 128 ∣ (k0_mult6 arg9).toNat := fun arg9 k0_hw4 => k0_hw4.1
theorem k0_off12_inb : ∀ (arg9 : BitVec 32) (k0_hw4 : k0_chk4 arg9), ∀ a, (k0_off12 arg9) a + S1x128x128.size a ≤ S1x8192x512.size a := fun arg9 k0_hw4 => k0_hw4.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "floor" => some ⊥
  | _ => none
-- ==== ReferenceIdeal.lean ====
abbrev S2x8192x1536 : Shape := ⟨3, ![2, 8192, 1536]⟩
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x1536, .bf16⟩
  | .hbm, ⟨1, _⟩ => ⟨S2x8192x1536, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x8x64, .f32⟩
  | .hbm, ⟨6, _⟩ => ⟨S2x8192x8x64, .f32⟩
  | .hbm, ⟨7, _⟩ => ⟨S2x8192x8x64, .f32⟩
  | .hbm, ⟨8, _⟩ => ⟨S2x8x8192x64, .f32⟩
  | .hbm, ⟨9, _⟩ => ⟨S2x8x8192x64, .f32⟩
  | .hbm, ⟨10, _⟩ => ⟨S2x8x8192x64, .f32⟩
  | .hbm, ⟨11, _⟩ => ⟨S2x8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S2x8x8192x8192, .f32⟩
  | .hbm, ⟨19, _⟩ => ⟨S2x8x8192x8192, .f32⟩
  | .hbm, ⟨20, _⟩ => ⟨S_, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .i1⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S_, .f32⟩
  | .hbm, ⟨36, _⟩ => ⟨S_, .f32⟩
  | .hbm, ⟨37, _⟩ => ⟨S2x8x8192x8192, .i1⟩
  | .hbm, ⟨38, _⟩ => ⟨S2x8x8192x8192, .f32⟩
  | .hbm, ⟨39, _⟩ => ⟨S2x8x8192x8192, .f32⟩
  | .hbm, ⟨40, _⟩ => ⟨S_, .f32⟩
  | .hbm, ⟨41, _⟩ => ⟨S_, .f32⟩
  | .hbm, ⟨42, _⟩ => ⟨S2x8x8192x8192, .f32⟩
  | .hbm, ⟨43, _⟩ => ⟨S2x8x8192x8192, .f32⟩
  | .hbm, ⟨44, _⟩ => ⟨S2x8x8192x8192, .f32⟩
  | .hbm, ⟨45, _⟩ => ⟨S_, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .i1⟩
  | .hbm, ⟨51, _⟩ => ⟨S2x8x8192x8192, .f32⟩
  | .hbm, ⟨52, _⟩ => ⟨S2x8x8192x8192, .f32⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S_, .f32⟩
  | .hbm, ⟨63, _⟩ => ⟨S_, .f32⟩
  | .hbm, ⟨64, _⟩ => ⟨S2x8x8192x8192, .i1⟩
  | .hbm, ⟨65, _⟩ => ⟨S2x8x8192x8192, .f32⟩
  | .hbm, ⟨66, _⟩ => ⟨S2x8x8192x8192, .f32⟩
  | .hbm, ⟨67, _⟩ => ⟨S2x8x8192x64, .f32⟩
  | .hbm, ⟨68, _⟩ => ⟨S2x8192x8x64, .f32⟩
  | .hbm, ⟨69, _⟩ => ⟨S2x8192x512, .f32⟩
  | .hbm, ⟨70, _⟩ => ⟨S2x8192x512, .bf16⟩
  | _, _ => ⟨S2x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v18 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_call2_cst : Ref sig .tc := ⟨.hbm, 40, rfl⟩
abbrev main_call2_v0 : Ref sig .tc := ⟨.hbm, 41, rfl⟩
abbrev main_v20 : Ref sig .tc := ⟨.hbm, 42, rfl⟩
abbrev main_v21 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_0 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S2x6144 : Shape := ⟨2, ![2, 6144]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S3x1024 : Shape := ⟨2, ![3, 1024]⟩
abbrev S2x6x1024 : Shape := ⟨3, ![2, 6, 1024]⟩
abbrev S1x512x1024 : Shape := ⟨3, ![1, 512, 1024]⟩
abbrev S1x512x512 : Shape := ⟨3, ![1, 512, 512]⟩
abbrev S1x6x1024 : Shape := ⟨3, ![1, 6, 1024]⟩
abbrev S512x4096 : Shape := ⟨2, ![512, 4096]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x1024, .bf16⟩
  | .hbm, ⟨3, _⟩ => ⟨S2x8192x1024, .bf16⟩
  | .hbm, ⟨4, _⟩ => ⟨S2x6144, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S512x1024, .f32⟩
  | .hbm, ⟨9, _⟩ => ⟨S1024x1024, .f32⟩
  | .hbm, ⟨10, _⟩ => ⟨S1024x4096, .f32⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S3x1024, .f32⟩
  | .hbm, ⟨16, _⟩ => ⟨S2x6x1024, .f32⟩
  | .hbm, ⟨17, _⟩ => ⟨S512x1024, .bf16⟩
  | .hbm, ⟨18, _⟩ => ⟨S1024x1024, .bf16⟩
  | .hbm, ⟨19, _⟩ => ⟨S1024x4096, .bf16⟩
  | .hbm, ⟨20, _⟩ => ⟨S4096x1024, .bf16⟩
  | .hbm, ⟨21, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x6x1024, .f32⟩
  | .local _ .vmem, ⟨9, _⟩ => ⟨S1x6x1024, .f32⟩
  | .local _ .vmem, ⟨10, _⟩ => ⟨S3x1024, .f32⟩
  | .local _ .vmem, ⟨11, _⟩ => ⟨S512x1024, .bf16⟩
  | .local _ .vmem, ⟨12, _⟩ => ⟨S1024x1024, .bf16⟩
  | .local _ .vmem, ⟨13, _⟩ => ⟨S1024x4096, .bf16⟩
  | .local _ .vmem, ⟨14, _⟩ => ⟨S4096x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x4096, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x8192x1024 : Shape := ⟨3, ![2, 8192, 1024]⟩
abbrev S2x8192x512 : Shape := ⟨3, ![2, 8192, 512]⟩
abbrev S2x6144 : Shape := ⟨2, ![2, 6144]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩

abbrev nBuf : Space → Nat
  | .hbm => 96
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x1024, .bf16⟩
  | .hbm, ⟨3, _⟩ => ⟨S2x8192x1024, .bf16⟩
  | .hbm, ⟨4, _⟩ => ⟨S2x6144, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S512x1024, .f32⟩
  | .hbm, ⟨9, _⟩ => ⟨S1024x1024, .f32⟩
  | .hbm, ⟨10, _⟩ => ⟨S1024x4096, .f32⟩
  | .hbm, ⟨11, _⟩ => ⟨S4096x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x8192x512, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x1x1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S2x8192x1, .f32⟩
  | .hbm, ⟨56, _⟩ => ⟨S2x8192x1024, .f32⟩
  | .hbm, ⟨57, _⟩ => ⟨S2x8192x1024, .f32⟩
  | .hbm, ⟨58, _⟩ => ⟨S1x1x1024, .f32⟩
  | .hbm, ⟨59, _⟩ => ⟨S2x8192x1024, .f32⟩
  | .hbm, ⟨60, _⟩ => ⟨S2x8192x1024, .f32⟩
  | .hbm, ⟨61, _⟩ => ⟨S2x1x1024, .f32⟩
  | .hbm, ⟨62, _⟩ => ⟨S_, .f32⟩
  | .hbm, ⟨63, _⟩ => ⟨S2x1x1024, .f32⟩
  | .hbm, ⟨64, _⟩ => ⟨S2x1x1024, .f32⟩
  | .hbm, ⟨65, _⟩ => ⟨S2x8192x1024, .f32⟩
  | .hbm, ⟨66, _⟩ => ⟨S2x8192x1024, .f32⟩
  | .hbm, ⟨67, _⟩ => ⟨S2x1x1024, .f32⟩
  | .hbm, ⟨68, _⟩ => ⟨S2x8192x1024, .f32⟩
  | .hbm, ⟨69, _⟩ => ⟨S2x8192x1024, .f32⟩
  | .hbm, ⟨70, _⟩ => ⟨S2x8192x4096, .f32⟩
  | .hbm, ⟨71, _⟩ => ⟨S_, .f32⟩
  | .hbm, ⟨72, _⟩ => ⟨S2x8192x4096, .f32⟩
  | .hbm, ⟨73, _⟩ => ⟨S2x8192x4096, .f32⟩
  | .hbm, ⟨74, _⟩ => ⟨S2x8192x4096, .f32⟩
  | .hbm, ⟨75, _⟩ => ⟨S2x8192x1024, .f32⟩
  | .hbm, ⟨76, _⟩ => ⟨S2x1x1024, .f32⟩
  | .hbm, ⟨77, _⟩ => ⟨S2x8192x1024, .f32⟩
  | .hbm, ⟨78, _⟩ => ⟨S_, .f32⟩
  | .hbm, ⟨79, _⟩ => ⟨S2x8192, .f32⟩
  | .hbm, ⟨80, _⟩ => ⟨S2x8192x1, .f32⟩
  | .hbm, ⟨81, _⟩ => ⟨S_, .f32⟩
  | .hbm, ⟨82, _⟩ => ⟨S2x8192x1, .f32⟩
  | .hbm, ⟨83, _⟩ => ⟨S2x8192x1, .f32⟩
  | .hbm, ⟨84, _⟩ => ⟨S_, .f32⟩
  | .hbm, ⟨85, _⟩ => ⟨S2x8192x1, .f32⟩
  | .hbm, ⟨86, _⟩ => ⟨S2x8192x1, .f32⟩
  | .hbm, ⟨87, _⟩ => ⟨S2x8192x1, .f32⟩
  | .hbm, ⟨88, _⟩ => ⟨S2x8192x1024, .f32⟩
  | .hbm, ⟨89, _⟩ => ⟨S2x8192x1024, .f32⟩
  | .hbm, ⟨90, _⟩ => ⟨S1x1x1024, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | .hbm, ⟨94, _⟩ => ⟨S2x8192x1024, .f32⟩
  | .hbm, ⟨95, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_cst : Ref sig .tc := ⟨.hbm, 71, rfl⟩
abbrev main_call0_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_6 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x6144 : Shape := ⟨2, ![2, 6144]⟩
abbrev S1024 : Shape := ⟨1, ![1024]⟩
abbrev S1024x5120 : Shape := ⟨2, ![1024, 5120]⟩
abbrev S3x512 : Shape := ⟨2, ![3, 512]⟩
abbrev S512x1024 : Shape := ⟨2, ![512, 1024]⟩
abbrev S2x6x1024 : Shape := ⟨3, ![2, 6, 1024]⟩
abbrev S1x1024 : Shape := ⟨2, ![1, 1024]⟩
abbrev S2x8192x1536 : Shape := ⟨3, ![2, 8192, 1536]⟩
abbrev S1x512x1024 : Shape := ⟨3, ![1, 512, 1024]⟩
abbrev S1x6x1024 : Shape := ⟨3, ![1, 6, 1024]⟩
abbrev S1x512x1536 : Shape := ⟨3, ![1, 512, 1536]⟩
abbrev S520x512 : Shape := ⟨2, ![520, 512]⟩
abbrev S1x1x1024 : Shape := ⟨3, ![1, 1, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S512x512 : Shape := ⟨2, ![512, 512]⟩
abbrev S8x512 : Shape := ⟨2, ![8, 512]⟩
abbrev S1x512 : Shape := ⟨2, ![1, 512]⟩
abbrev S1024x1024 : Shape := ⟨2, ![1024, 1024]⟩
abbrev S1x512x512 : Shape := ⟨3, ![1, 512, 512]⟩

abbrev nBuf : Space → Nat
  | .hbm => 13
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x5120, .f32⟩
  | .hbm, ⟨4, _⟩ => ⟨S3x512, .f32⟩
  | .hbm, ⟨5, _⟩ => ⟨S512x1024, .f32⟩
  | .hbm, ⟨6, _⟩ => ⟨S2x6x1024, .f32⟩
  | .hbm, ⟨7, _⟩ => ⟨S1x1024, .f32⟩
  | .hbm, ⟨8, _⟩ => ⟨S1024x5120, .bf16⟩
  | .hbm, ⟨9, _⟩ => ⟨S512x1024, .bf16⟩
  | .hbm, ⟨10, _⟩ => ⟨S2x8192x1536, .bf16⟩
  | .hbm, ⟨11, _⟩ => ⟨S2x8192x1024, .bf16⟩
  | .hbm, ⟨12, _⟩ => ⟨S2x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5120, .bf16⟩
  | .local _ .vmem, ⟨6, _⟩ => ⟨S3x512, .f32⟩
  | .local _ .vmem, ⟨7, _⟩ => ⟨S512x1024, .bf16⟩
  | .local _ .vmem, ⟨8, _⟩ => ⟨S1x512x1536, .bf16⟩
  | .local _ .vmem, ⟨9, _⟩ => ⟨S1x512x1536, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S520x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S2x8192x1024 : Shape := ⟨3, ![2, 8192, 1024]⟩
abbrev S2x6144 : Shape := ⟨2, ![2, 6144]⟩
abbrev S1024 : Shape := ⟨1, ![1024]⟩
abbrev S1024x5120 : Shape := ⟨2, ![1024, 5120]⟩
abbrev S3x512 : Shape := ⟨2, ![3, 512]⟩
abbrev S512x1024 : Shape := ⟨2, ![512, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x5120 : Shape := ⟨3, ![2, 8192, 5120]⟩
abbrev S2x8192x512 : Shape := ⟨3, ![2, 8192, 512]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S2x8192x1536 : Shape := ⟨3, ![2, 8192, 1536]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x5120, .f32⟩
  | .hbm, ⟨4, _⟩ => ⟨S3x512, .f32⟩
  | .hbm, ⟨5, _⟩ => ⟨S512x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S2x1x1024, .f32⟩
  | .hbm, ⟨35, _⟩ => ⟨S2x8192x1024, .f32⟩
  | .hbm, ⟨36, _⟩ => ⟨S2x8192x1024, .f32⟩
  | .hbm, ⟨37, _⟩ => ⟨S2x8192x5120, .f32⟩
  | .hbm, ⟨38, _⟩ => ⟨S2x8192x512, .f32⟩
  | .hbm, ⟨39, _⟩ => ⟨S2x8192x512, .f32⟩
  | .hbm, ⟨40, _⟩ => ⟨S2x8192x512, .f32⟩
  | .hbm, ⟨41, _⟩ => ⟨S2x8192x512, .f32⟩
  | .hbm, ⟨42, _⟩ => ⟨S2x8192x512, .f32⟩
  | .hbm, ⟨43, _⟩ => ⟨S2x8192x512, .f32⟩
  | .hbm, ⟨44, _⟩ => ⟨S2x8192x1024, .f32⟩
  | .hbm, ⟨45, _⟩ => ⟨S2x8192x1024, .f32⟩
  | .hbm, ⟨46, _⟩ => ⟨S2x8192x512, .f32⟩
  | .hbm, ⟨47, _⟩ => ⟨S_, .i32⟩
  | .hbm, ⟨48, _⟩ => ⟨S_, .f32⟩
  | .hbm, ⟨49, _⟩ => ⟨S2x8194x512, .f32⟩
  | .hbm, ⟨50, _⟩ => ⟨S1x512, .f32⟩
  | .hbm, ⟨51, _⟩ => ⟨S512, .f32⟩
  | .hbm, ⟨52, _⟩ => ⟨S2x8192x512, .f32⟩
  | .hbm, ⟨53, _⟩ => ⟨S1x1x512, .f32⟩
  | .hbm, ⟨54, _⟩ => ⟨S2x8192x512, .f32⟩
  | .hbm, ⟨55, _⟩ => ⟨S2x8192x512, .f32⟩
  | .hbm, ⟨56, _⟩ => ⟨S_, .f32⟩
  | .hbm, ⟨57, _⟩ => ⟨S2x8192x512, .f32⟩
  | .hbm, ⟨58, _⟩ => ⟨S2x8192x512, .f32⟩
  | .hbm, ⟨59, _⟩ => ⟨S1x512, .f32⟩
  | .hbm, ⟨60, _⟩ => ⟨S512, .f32⟩
  | .hbm, ⟨61, _⟩ => ⟨S2x8192x512, .f32⟩
  | .hbm, ⟨62, _⟩ => ⟨S1x1x512, .f32⟩
  | .hbm, ⟨63, _⟩ => ⟨S2x8192x512, .f32⟩
  | .hbm, ⟨64, _⟩ => ⟨S2x8192x512, .f32⟩
  | .hbm, ⟨65, _⟩ => ⟨S2x8192x512, .f32⟩
  | .hbm, ⟨66, _⟩ => ⟨S1x512, .f32⟩
  | .hbm, ⟨67, _⟩ => ⟨S512, .f32⟩
  | .hbm, ⟨68, _⟩ => ⟨S2x8192x512, .f32⟩
  | .hbm, ⟨69, _⟩ => ⟨S1x1x512, .f32⟩
  | .hbm, ⟨70, _⟩ => ⟨S2x8192x512, .f32⟩
  | .hbm, ⟨71, _⟩ => ⟨S2x8192x512, .f32⟩
  | .hbm, ⟨72, _⟩ => ⟨S2x8192x512, .f32⟩
  | .hbm, ⟨73, _⟩ => ⟨S2x8192x512, .f32⟩
  | .hbm, ⟨74, _⟩ => ⟨S2x8192x1024, .f32⟩
  | .hbm, ⟨75, _⟩ => ⟨S_, .f32⟩
  | .hbm, ⟨76, _⟩ => ⟨S2x8192x512, .f32⟩
  | .hbm, ⟨77, _⟩ => ⟨S2x8192x512, .f32⟩
  | .hbm, ⟨78, _⟩ => ⟨S2x8192x1536, .f32⟩
  | .hbm, ⟨79, _⟩ => ⟨S2x8192x1536, .bf16⟩
  | .hbm, ⟨80, _⟩ => ⟨S2x8192x1024, .f32⟩
  | .hbm, ⟨81, _⟩ => ⟨S2x8192x1024, .f32⟩
  | .hbm, ⟨82, _⟩ => ⟨S_, .f32⟩
  | .hbm, ⟨83, _⟩ => ⟨S2x8192x1024, .f32⟩
  | .hbm, ⟨84, _⟩ => ⟨S2x8192x1024, .f32⟩
  | .hbm, ⟨85, _⟩ => ⟨S_, .f32⟩
  | .hbm, ⟨86, _⟩ => ⟨S2x8192x1024, .f32⟩
  | .hbm, ⟨87, _⟩ => ⟨S2x8192x1024, .f32⟩
  | .hbm, ⟨88, _⟩ => ⟨S2x8192x1024, .f32⟩
  | .hbm, ⟨89, _⟩ => ⟨S2x8192x1024, .bf16⟩
  | .hbm, ⟨90, _⟩ => ⟨S2x8192x1024, .f32⟩
  | .hbm, ⟨91, _⟩ => ⟨S2x8192x1024, .f32⟩
  | .hbm, ⟨92, _⟩ => ⟨S_, .f32⟩
  | .hbm, ⟨93, _⟩ => ⟨S2x8192x1024, .f32⟩
  | .hbm, ⟨94, _⟩ => ⟨S2x8192x1024, .f32⟩
  | .hbm, ⟨95, _⟩ => ⟨S_, .f32⟩
  | .hbm, ⟨96, _⟩ => ⟨S2x8192x1024, .f32⟩
  | .hbm, ⟨97, _⟩ => ⟨S2x8192x1024, .f32⟩
  | .hbm, ⟨98, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_call0_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_4 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_5 : Ref sig .tc := ⟨.hbm, 82, rfl⟩
abbrev main_v68 : Ref sig .tc := ⟨.hbm, 83, rfl⟩
abbrev main_v69 : Ref sig .tc := ⟨.hbm, 84, rfl⟩
abbrev main_cst_6 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_7 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩

abbrev nD : Nat := 1
abbrev τ : Topo := Topo.v7x

variable {F : FTy → Type} [FloatOps F]
-- ==== Kernel4.lean ====
abbrev S2x1024 : Shape := ⟨2, ![2, 1024]⟩
abbrev S2x1024x6144 : Shape := ⟨3, ![2, 1024, 6144]⟩
abbrev S2x6144 : Shape := ⟨2, ![2, 6144]⟩
abbrev S1024x2 : Shape := ⟨2, ![1024, 2]⟩
abbrev S2x1x6144 : Shape := ⟨3, ![2, 1, 6144]⟩
abbrev S2x2x6144 : Shape := ⟨3, ![2, 2, 6144]⟩
abbrev S1x1024x1536 : Shape := ⟨3, ![1, 1024, 1536]⟩
abbrev S1x1x1536 : Shape := ⟨3, ![1, 1, 1536]⟩
abbrev S1x2x1536 : Shape := ⟨3, ![1, 2, 1536]⟩
abbrev S1024x1536 : Shape := ⟨2, ![1024, 1536]⟩
abbrev S1024x1 : Shape := ⟨2, ![1024, 1]⟩
abbrev S1536 : Shape := ⟨1, ![1536]⟩
abbrev S1x1536 : Shape := ⟨2, ![1, 1536]⟩

abbrev nBuf : Space → Nat
  | .hbm => 6
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S1024x2, .f32⟩
  | .hbm, ⟨4, _⟩ => ⟨S2x1x6144, .f32⟩
  | .hbm, ⟨5, _⟩ => ⟨S2x2x6144, .f32⟩
  | .local _ .vmem, ⟨0, _⟩ => ⟨S1024x2, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x2x1536, .f32⟩
  | .local _ .vmem, ⟨6, _⟩ => ⟨S1x2x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x1024 : Shape := ⟨2, ![2, 1024]⟩
abbrev S2x1024x6144 : Shape := ⟨3, ![2, 1024, 6144]⟩
abbrev S2x6144 : Shape := ⟨2, ![2, 6144]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S1x2x6144 : Shape := ⟨3, ![1, 2, 6144]⟩
abbrev S2x2x6144 : Shape := ⟨3, ![2, 2, 6144]⟩

abbrev nBuf : Space → Nat
  | .hbm => 22
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S1x1024x6144, .f32⟩
  | .hbm, ⟨4, _⟩ => ⟨S1024x6144, .f32⟩
  | .hbm, ⟨5, _⟩ => ⟨S2x6144, .f32⟩
  | .hbm, ⟨6, _⟩ => ⟨S1x6144, .f32⟩
  | .hbm, ⟨7, _⟩ => ⟨S6144, .f32⟩
  | .hbm, ⟨8, _⟩ => ⟨S1x6144, .f32⟩
  | .hbm, ⟨9, _⟩ => ⟨S2x6144, .f32⟩
  | .hbm, ⟨10, _⟩ => ⟨S2x6144, .f32⟩
  | .hbm, ⟨11, _⟩ => ⟨S1x1024x6144, .f32⟩
  | .hbm, ⟨12, _⟩ => ⟨S1024x6144, .f32⟩
  | .hbm, ⟨13, _⟩ => ⟨S2x6144, .f32⟩
  | .hbm, ⟨14, _⟩ => ⟨S1x6144, .f32⟩
  | .hbm, ⟨15, _⟩ => ⟨S6144, .f32⟩
  | .hbm, ⟨16, _⟩ => ⟨S1x6144, .f32⟩
  | .hbm, ⟨17, _⟩ => ⟨S2x6144, .f32⟩
  | .hbm, ⟨18, _⟩ => ⟨S2x6144, .f32⟩
  | .hbm, ⟨19, _⟩ => ⟨S1x2x6144, .f32⟩
  | .hbm, ⟨20, _⟩ => ⟨S1x2x6144, .f32⟩
  | .hbm, ⟨21, _⟩ => ⟨S2x2x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Proof.Sweep.lean ====
/-
  The uncounted loop every head pair of the attention kernel ends in, stated once for all of them and for any kernel
  signature: the counter walks the key tiles downwards, and each trip reads one key tile and one value tile, reads a
  running log-weight and an accumulator out of two scratch buffers, and stores both again. `tripProg` is that loop's
  function, `sweep` the accumulator it ends with, and `sweep_spec` the rule: the loop's label, called with `n` tiles to
  visit, ends, and leaves the accumulator's slot at `sweep`.
-/
module

public import Idealize.ShloMosaic.Lib.Tactic
public import Idealize.ShloMosaic.Lib.Pipeline.Kit

@[expose] public section

noncomputable section

namespace Cert.Proof.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

/-! ### The counter -/

/-- The counter `j` with `n` tiles still to visit: the tile it names is `n - 1`, and with none left it is negative. -/
def Turn (j : BitVec 32) (n : ℕ) : Prop :=
  (n = 0 ∧ Scalar.cmpi .sge j 0#32 = 0#1) ∨ ∃ k < 62, n = k + 1 ∧ j = BitVec.ofNat 32 k

/-- A counter that names a tile passes the first half of the loop's test, -/
theorem sge_ofNat : ∀ k < 62, Scalar.cmpi .sge (BitVec.ofNat 32 k) 0#32 = 1#1 := by decide

/-- and its predecessor names the tile below, or is negative when there is none. -/
theorem turn_pred (k : ℕ) (hk : k < 62) : Turn (Scalar.subi (BitVec.ofNat 32 k) 1#32) k := by
  cases k with
  | zero => exact .inl ⟨rfl, by decide⟩
  | succ k => exact .inr ⟨k, by omega, rfl, (by decide : ∀ k < 61, Scalar.subi (BitVec.ofNat 32 (k + 1)) 1#32 = BitVec.ofNat 32 k) k (by omega)⟩

/-- The loop's test, its first half known. -/
theorem andi_one (b : BitVec 1) : Scalar.andi 1#1 b = b := by revert b; decide

theorem andi_zero (b : BitVec 1) : Scalar.andi 0#1 b = 0#1 := by revert b; decide

section

variable {nD : ℕ} {τ : Topo} {sig : RefSig} {F : FTy → Type} [FloatOps F] {Λ : Labels}
variable {sK sC : Shape} {eK eC : EltTy}

local notation "𝕄" => MT nD τ sig Unit (Elt F) ℕ (UR sig nD τ) ℕ

/-- What a trip is made of: where it reads, and what it computes from the key tile, the running log-weight, the
    accumulator and the value tile it read. -/
structure Trip (F : FTy → Type) (sK sC : Shape) (eK eC : EltTy) where
  /-- The check on the counter the offsets rest on. -/
  chk : BitVec 32 → Prop
  dec : ∀ j, Decidable (chk j)
  /-- The offsets of the tile the counter names, in the keys and in the values alike, and its extents. -/
  off : BitVec 32 → Fin sK.rank → ℕ
  sz : Fin sK.rank → ℕ
  inb : ∀ j, chk j → ∀ a, off j a + sz a ≤ sK.size a
  /-- The slot of both scratch buffers. -/
  slot : Rect sC
  /-- The accumulator, the log-weight and the flag the trip leaves. -/
  acc : ((⟨sK.rank, sz⟩ : Shape).Idx → Elt F eK) → (slot.shape.Idx → Elt F eC) → (slot.shape.Idx → Elt F eC)
    → ((⟨sK.rank, sz⟩ : Shape).Idx → Elt F eK) → (slot.shape.Idx → Elt F eC)
  lw : ((⟨sK.rank, sz⟩ : Shape).Idx → Elt F eK) → (slot.shape.Idx → Elt F eC) → (slot.shape.Idx → Elt F eC)
  go : ((⟨sK.rank, sz⟩ : Shape).Idx → Elt F eK) → (slot.shape.Idx → Elt F eC) → BitVec 32

variable (T : Trip F sK sC eK eC)

/-- A key or value tile. -/
abbrev Trip.Tile : Type := (⟨sK.rank, T.sz⟩ : Shape).Idx → Elt F eK

/-- What a scratch slot holds. -/
abbrev Trip.Slot : Type := T.slot.shape.Idx → Elt F eC

/-- The accumulator after the tiles `n - 1, …, 0`, from the flag `go`, the log-weight `c` and the accumulator `a`: the
    walk stops as soon as the flag is not positive. -/
def sweep (kt vt : ℕ → T.Tile) : ℕ → BitVec 32 → T.Slot → T.Slot → T.Slot
  | 0, _, _, a => a
  | n + 1, go, c, a =>
    if Scalar.cmpi .sgt go 0#32 = 1#1 then
      sweep kt vt n (T.go (kt n) c) (T.lw (kt n) c) (T.acc (kt n) c a (vt n))
    else a

/-- The rectangle of the tile the counter names. -/
abbrev Trip.rect (j : BitVec 32) (h : T.chk j) : Rect sK := Rect.unit (s := sK) (T.off j) T.sz (T.inb j h)

/-- The loop's function: test the counter and the flag; if both pass, check the counter, read the tiles and the two slots,
    store the accumulator and the log-weight, and call on. -/
def tripProg {R : Type} (ret : BitVec 32 → BitVec 32 → R)
    (call : BitVec 32 → BitVec 32 → Prog (TpuEff nD τ sig (Elt F) Λ .tc) R)
    (a3 a4 : Memref sig .tc .vmem sK eK) (a7 a8 : Memref sig .tc .vmem sC eC)
    (l3 : ∀ j h, a3.view.LoadsAt (T.rect j h).toLoadRect) (l4 : ∀ j h, a4.view.LoadsAt (T.rect j h).toLoadRect)
    (l7 : a7.view.LoadsAt T.slot.toLoadRect) (l8 : a8.view.LoadsAt T.slot.toLoadRect)
    (s7 : (a7.access T.slot).Stores Finset.univ) (s8 : (a8.access T.slot).Stores Finset.univ) (j go : BitVec 32) :
    Prog (TpuEff nD τ sig (Elt F) Λ .tc) R :=
  if Scalar.andi (Scalar.cmpi .sge j 0#32) (Scalar.cmpi .sgt go 0#32) = 1#1 then
    .op (.assume (T.chk j) (T.dec j)) fun h =>
    .op (.load a3 (T.rect j h.down).toLoadRect (l3 j h.down)) fun kt =>
    .op (.load a7 T.slot.toLoadRect l7) fun cv =>
    .op (.load a8 T.slot.toLoadRect l8) fun av =>
    .op (.load a4 (T.rect j h.down).toLoadRect (l4 j h.down)) fun vt =>
    .op (.load a8 T.slot.toLoadRect l8) fun _ =>
    .op (.store a8 T.slot (T.acc kt cv av vt) Finset.univ s8 (.inl rfl)) fun _ =>
    .op (.load a7 T.slot.toLoadRect l7) fun _ =>
    .op (.store a7 T.slot (T.lw kt cv) Finset.univ s7 (.inl rfl)) fun _ =>
    call (Scalar.subi j 1#32) (T.go kt cv)
  else .ret (ret j go)

/-- What a load through a rectangle of a memref reads lies among the memref's own elements. -/
theorem setOn_sub {s : Shape} {e : EltTy} (a : Memref sig .tc .vmem s e) (r : Rect s) :
    a.view.setOn r.toLoadRect.set ⊆ a.view.set := a.view.setOn_subset_set _

/-- So does what a store writes. -/
theorem access_sub {s : Shape} {e : EltTy} (a : Memref sig .tc .vmem s e) (r : Rect s) :
    (a.access r).setOn Finset.univ ⊆ a.view.set := a.view.set_slice_subset r

/-- A rectangle reads back what was stored into it. -/
theorem readAt_stored {s : Shape} {e : EltTy} (a : Memref sig .tc .vmem s e) (r : Rect s) (f : a.view.ty.Contents (Elt F))
    (w : r.shape.Idx → Elt F e) :
    a.view.readAt (Elt F) r.toLoadRect ((a.access r).write (Elt F) f w Finset.univ) = w := by
  rw [View.readAt_rect]; exact View.read_write_univ (v := a.view.slice r) f w

variable (defs : Defs nD τ sig (Elt F) Λ) (c : Dev nD)
variable (a3 a4 : Memref sig .tc .vmem sK eK) (a7 a8 : Memref sig .tc .vmem sC eC)
variable (f3 : Buf (Elt F) (a3.view.loc (c : Thread nD τ))) (f4 : Buf (Elt F) (a4.view.loc (c : Thread nD τ)))

/-- What the loop is entered with: the keys and the values at their contents, the two scratch buffers at contents whose
    slot reads `cv` and `av`. -/
def held (cv av : T.Slot) : sProp 𝕄 :=
  iprop((a3.view.loc (c : Thread nD τ) ↦[a3.view.set]{fullShare} f3) ∗ (a4.view.loc (c : Thread nD τ) ↦[a4.view.set]{fullShare} f4)
    ∗ (∃ f7 : Buf (Elt F) (a7.view.loc (c : Thread nD τ)), ⌜a7.view.readAt (Elt F) T.slot.toLoadRect f7 = cv⌝
        ∗ (a7.view.loc (c : Thread nD τ) ↦[a7.view.set]{fullShare} f7))
    ∗ (∃ f8 : Buf (Elt F) (a8.view.loc (c : Thread nD τ)), ⌜a8.view.readAt (Elt F) T.slot.toLoadRect f8 = av⌝
        ∗ (a8.view.loc (c : Thread nD τ) ↦[a8.view.set]{fullShare} f8)))

/-- What it ends with: the log-weight's buffer at anything, the accumulator's at contents whose slot reads `av`. -/
def left (av : T.Slot) : sProp 𝕄 :=
  iprop((a3.view.loc (c : Thread nD τ) ↦[a3.view.set]{fullShare} f3) ∗ (a4.view.loc (c : Thread nD τ) ↦[a4.view.set]{fullShare} f4)
    ∗ (∃ f7 : Buf (Elt F) (a7.view.loc (c : Thread nD τ)), (a7.view.loc (c : Thread nD τ) ↦[a7.view.set]{fullShare} f7))
    ∗ (∃ f8 : Buf (Elt F) (a8.view.loc (c : Thread nD τ)), ⌜a8.view.readAt (Elt F) T.slot.toLoadRect f8 = av⌝
        ∗ (a8.view.loc (c : Thread nD τ) ↦[a8.view.set]{fullShare} f8)))

/-- The label's specification: from `held` to `left`, whatever it returns. -/
def spec (R : Type) (kt vt : ℕ → T.Tile) (n : ℕ) (go : BitVec 32) (cv av : T.Slot) : sWPT 𝕄 R := do
  sWPT.consume (held T c a3 a4 a7 a8 f3 f4 cv av)
  let r ← sWPT.arbitrary
  sWPT.produce (left T c a3 a4 a7 a8 f3 f4 (sweep T kt vt n go cv av))
  pure r

theorem spec_apply (R : Type) (kt vt : ℕ → T.Tile) (n : ℕ) (go : BitVec 32) (cv av : T.Slot) (K : R → sProp 𝕄) :
    spec T c a3 a4 a7 a8 f3 f4 R kt vt n go cv av K
      = iprop(held T c a3 a4 a7 a8 f3 f4 cv av
          ∗ ∀ r : R, left T c a3 a4 a7 a8 f3 f4 (sweep T kt vt n go cv av) -∗ K r) := rfl

/-- THE LOOP: a label whose function is `tripProg`, on keys and values whose tiles read `kt` and `vt`, meets its
    specification at any number of tiles to visit, by induction on that number. -/
theorem sweep_spec {ℓ : Λ.Label} (arg : BitVec 32 → BitVec 32 → Λ.Args ℓ) (ret : BitVec 32 → BitVec 32 → Λ.Result ℓ)
    (l3 : ∀ j h, a3.view.LoadsAt (T.rect j h).toLoadRect) (l4 : ∀ j h, a4.view.LoadsAt (T.rect j h).toLoadRect)
    (l7 : a7.view.LoadsAt T.slot.toLoadRect) (l8 : a8.view.LoadsAt T.slot.toLoadRect)
    (s7 : (a7.access T.slot).Stores Finset.univ) (s8 : (a8.access T.slot).Stores Finset.univ)
    (hdefs : ∀ j go, defs .tc ℓ (arg j go)
      = tripProg T ret (fun j go => .op (.call ℓ (arg j go)) .ret) a3 a4 a7 a8 l3 l4 l7 l8 s7 s8 j go)
    (hchk : ∀ k < 62, T.chk (BitVec.ofNat 32 k)) (kt vt : ℕ → T.Tile)
    (hk : ∀ k < 62, ∀ h, a3.view.readAt (Elt F) (T.rect (BitVec.ofNat 32 k) h).toLoadRect f3 = kt k)
    (hv : ∀ k < 62, ∀ h, a4.view.readAt (Elt F) (T.rect (BitVec.ofNat 32 k) h).toLoadRect f4 = vt k) (E : Set ℕ) :
    ∀ n j go cv av, Turn j n → spec T c a3 a4 a7 a8 f3 f4 (Λ.Result ℓ) kt vt n go cv av
      ≤ wp frame (wpE defs Variants.nat (c : Thread nD τ) (some n)) E (defs .tc ℓ (arg j go)) := by
  intro n
  induction n with
  | zero =>
    intro j go cv av ht K
    change BIBase.Entails (PROP := sProp 𝕄) (spec T c a3 a4 a7 a8 f3 f4 (Λ.Result ℓ) kt vt _ go cv av K) (wp frame _ E (defs .tc ℓ (arg j go)) K)
    rw [spec_apply, hdefs, tripProg]
    rcases ht with ⟨-, hj⟩ | ⟨k, -, hk0, -⟩
    · rw [hj, andi_zero, if_neg (by decide)]
      iintro ⟨H, Hk⟩
      rw [wp_ret]; imodintro
      iapply Hk
      unfold held left
      icases H with ⟨H3, H4, ⟨%f7, -, H7⟩, H8⟩
      isplitl [H3]; · iexact H3
      isplitl [H4]; · iexact H4
      isplitl [H7]; · iexists _; iexact H7
      iexact H8
    · omega
  | succ n ih =>
    intro j go cv av ht K
    change BIBase.Entails (PROP := sProp 𝕄) (spec T c a3 a4 a7 a8 f3 f4 (Λ.Result ℓ) kt vt _ go cv av K) (wp frame _ E (defs .tc ℓ (arg j go)) K)
    rw [spec_apply, hdefs, tripProg]
    rcases ht with ⟨h0, -⟩ | ⟨k, hk62, hkn, rfl⟩
    · omega
    obtain rfl : n = k := by omega
    rw [sge_ofNat n hk62, andi_one]
    by_cases hgo : Scalar.cmpi .sgt go 0#32 = 1#1
    · rw [if_pos hgo]
      unfold held
      iintro ⟨⟨H3, H4, ⟨%f7, %h7, H7⟩, ⟨%f8, %h8, H8⟩⟩, Hk⟩
      iapply (wp_assume Variants.nat (c : Thread nD τ) (some (n + 1)) E (hchk n hk62))
      iapply (wp_load Variants.nat (c : Thread nD τ) (some (n + 1)) E (m := a3) (setOn_sub a3 _)) $$ H3; iintro H3
      iapply (wp_load Variants.nat (c : Thread nD τ) (some (n + 1)) E (m := a7) (setOn_sub a7 _)) $$ H7; iintro H7
      iapply (wp_load Variants.nat (c : Thread nD τ) (some (n + 1)) E (m := a8) (setOn_sub a8 _)) $$ H8; iintro H8
      iapply (wp_load Variants.nat (c : Thread nD τ) (some (n + 1)) E (m := a4) (setOn_sub a4 _)) $$ H4; iintro H4
      iapply (wp_load Variants.nat (c : Thread nD τ) (some (n + 1)) E (m := a8) (setOn_sub a8 _)) $$ H8; iintro H8
      iapply (wp_store Variants.nat (c : Thread nD τ) (some (n + 1)) E (m := a8) (r := T.slot) (Mk := Finset.univ) (access_sub a8 T.slot)) $$ H8; iintro H8
      iapply (wp_load Variants.nat (c : Thread nD τ) (some (n + 1)) E (m := a7) (setOn_sub a7 _)) $$ H7; iintro H7
      iapply (wp_store Variants.nat (c : Thread nD τ) (some (n + 1)) E (m := a7) (r := T.slot) (Mk := Finset.univ) (access_sub a7 T.slot)) $$ H7; iintro H7
      rw [h7, h8, hk n hk62, hv n hk62]
      iapply (wp_call_spec Variants.nat (c : Thread nD τ) (some (n + 1)) E
        (spec T c a3 a4 a7 a8 f3 f4 (Λ.Result ℓ) kt vt n (T.go (kt n) cv) (T.lw (kt n) cv) (T.acc (kt n) cv av (vt n))) n
        (fun u hu => by cases hu; exact Nat.lt_succ_self n)
        (ih _ _ _ _ (turn_pred n hk62)))
      rw [spec_apply]; unfold held
      isplitl [H3 H4 H7 H8]
      · isplitl [H3]; · iexact H3
        isplitl [H4]; · iexact H4
        isplitl [H7]
        · iexists _; isplitr
          swap; · iexact H7
          ipureintro; exact readAt_stored a7 _ _ _
        iexists _; isplitr
        swap; · iexact H8
        ipureintro; exact readAt_stored a8 _ _ _
      iintro %r H
      rw [wp_ret]; imodintro
      iapply Hk
      rw [sweep, if_pos hgo]
      iexact H
    · rw [if_neg hgo]
      iintro ⟨H, Hk⟩
      rw [wp_ret]; imodintro
      iapply Hk
      unfold held left
      rw [sweep, if_neg hgo]
      icases H with ⟨H3, H4, ⟨%f7, -, H7⟩, H8⟩
      isplitl [H3]; · iexact H3
      isplitl [H4]; · iexact H4
      isplitl [H7]; · iexists _; iexact H7
      iexact H8

/-- THE CALL, from a body outside the loop: with the two buffers held at contents whose slots read `cv` and `av`, the body
    goes on holding everything, the accumulator's slot at the sweep. -/
theorem sweep_call {ℓ : Λ.Label} (a : Λ.Args ℓ) (kt vt : ℕ → T.Tile) (n : ℕ) (go : BitVec 32) (cv av : T.Slot) (E : Set ℕ)
    (hS : spec T c a3 a4 a7 a8 f3 f4 (Λ.Result ℓ) kt vt n go cv av
      ≤ wp frame (wpE defs Variants.nat (c : Thread nD τ) (some n)) E (defs .tc ℓ a))
    (f7 : Buf (Elt F) (a7.view.loc (c : Thread nD τ))) (f8 : Buf (Elt F) (a8.view.loc (c : Thread nD τ)))
    (h7 : a7.view.readAt (Elt F) T.slot.toLoadRect f7 = cv) (h8 : a8.view.readAt (Elt F) T.slot.toLoadRect f8 = av)
    {B : Type} (k : Λ.Result ℓ → Prog (TpuEff nD τ sig (Elt F) Λ .tc) B) (Q : B → sProp 𝕄) :
    iprop((a3.view.loc (c : Thread nD τ) ↦[a3.view.set]{fullShare} f3) ∗ (a4.view.loc (c : Thread nD τ) ↦[a4.view.set]{fullShare} f4)
      ∗ (a7.view.loc (c : Thread nD τ) ↦[a7.view.set]{fullShare} f7) ∗ (a8.view.loc (c : Thread nD τ) ↦[a8.view.set]{fullShare} f8)
      ∗ (∀ (r : Λ.Result ℓ) (g7 : Buf (Elt F) (a7.view.loc (c : Thread nD τ))) (g8 : Buf (Elt F) (a8.view.loc (c : Thread nD τ))),
          ⌜a8.view.readAt (Elt F) T.slot.toLoadRect g8 = sweep T kt vt n go cv av⌝
          -∗ (a3.view.loc (c : Thread nD τ) ↦[a3.view.set]{fullShare} f3) -∗ (a4.view.loc (c : Thread nD τ) ↦[a4.view.set]{fullShare} f4)
          -∗ (a7.view.loc (c : Thread nD τ) ↦[a7.view.set]{fullShare} g7) -∗ (a8.view.loc (c : Thread nD τ) ↦[a8.view.set]{fullShare} g8)
          -∗ wp frame (wpE defs Variants.nat (c : Thread nD τ) none) E (k r) Q))
    ⊢ wp frame (wpE defs Variants.nat (c : Thread nD τ) none) E (.op (.call ℓ a) k) Q := by
  iintro ⟨H3, H4, H7, H8, Hk⟩
  iapply (wp_call_spec Variants.nat (c : Thread nD τ) none E
    (spec T c a3 a4 a7 a8 f3 f4 (Λ.Result ℓ) kt vt n go cv av) n (fun u hu => nomatch hu) hS)
  rw [spec_apply]; unfold held left
  isplitl [H3 H4 H7 H8]
  · isplitl [H3]; · iexact H3
    isplitl [H4]; · iexact H4
    isplitl [H7]
    · iexists _; isplitr
      swap; · iexact H7
      ipureintro; exact h7
    iexists _; isplitr
    swap; · iexact H8
    ipureintro; exact h8
  iintro %r ⟨H3, H4, ⟨%g7, H7⟩, ⟨%g8, %hg, H8⟩⟩
  ispecialize Hk $$ %r %g7 %g8 %hg H3 H4 H7 H8
  iexact Hk

end

end Cert.Proof.Sweep

end
-- ==== Proof.KI.Trips.lean ====
/-
  The four loops of the idealized attention kernel, one for each pair of heads, as instances of the one loop of Sweep.lean:
  where each reads its key and value tiles (`tile`), what its trip computes (`trip1` … `trip4`), and its rule
  (`loop1` … `loop4`).
-/
module

public import proofs.«01_k».proof.Proof.Sweep
public import proofs.«01_k».proof.Proof.Gen.KernelIdeal.Skeleton
public import proofs.«01_k».proof.Proof.Gen.KernelIdeal.Points
public import Idealize.ShloMosaic.Lib.WholeRead

@[expose] public section

noncomputable section

namespace Cert.Proof.KI

open Cert.KernelIdeal Cert.KernelIdeal.Gen Cert.Proof.Sweep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

/-- The floor under which a loop stops. -/
abbrev floor : F .f32 := Named.named κ "floor" 0xC2B00000#32

/-- What a loop reads of the keys (or the values) at tile `n`, where the counter passes its check. -/
def tile (x : Vec F S1x8192x512 .bf16) (chk : BitVec 32 → Prop) [∀ j, Decidable (chk j)] (off : BitVec 32 → Fin 3 → ℕ)
    (inb : ∀ j, chk j → ∀ a, off j a + S1x128x128.size a ≤ S1x8192x512.size a) (n : ℕ) : Vec F S1x128x128 .bf16 :=
  if h : chk (BitVec.ofNat 32 n) then
    fun y => x ((Rect.unit (s := S1x8192x512) (off (BitVec.ofNat 32 n)) S1x128x128.size (inb _ h)).toLoadRect.idx y)
  else fun _ => x fun a => ⟨0, by revert a; decide⟩

/-! ### The trips -/

/-- The first pair's trip, from its stacked queries `q` and the matrix of ones `u`. -/
def trip1 (q : FVec F S256x128 .bf16) (u : FVec F S256x256 .bf16) : Trip F S1x8192x512 S4x256x128 .bf16 .f32 where
  chk := k0_chk1
  dec := k0_chk1.dec
  off := k0_off3
  sz := S1x128x128.size
  inb := k0_off3_inb
  slot := Rect.unit (s := S4x256x128) ![0, 0, 0] S1x256x128.size inb_S4x256x128_S1x256x128_0_0_0
  acc kt cv av vt := k0_pay5 (k0_pay91 q u kt cv av vt)
  lw kt cv := k0_pay7 (k0_pay89 q u kt) (k0_pay90 cv)
  go kt cv := Scalar.extui (Scalar.cmpf .ogt (k0_pay8 (k0_pay89 q u kt) (k0_pay90 cv)) floor)

/-- The second pair's. -/
def trip2 (q : FVec F S256x128 .bf16) (u : FVec F S256x256 .bf16) : Trip F S1x8192x512 S4x256x128 .bf16 .f32 where
  chk := k0_chk2
  dec := k0_chk2.dec
  off := k0_off6
  sz := S1x128x128.size
  inb := k0_off6_inb
  slot := Rect.unit (s := S4x256x128) ![1, 0, 0] S1x256x128.size inb_S4x256x128_S1x256x128_1_0_0
  acc kt cv av vt := k0_pay9 (k0_pay97 q u kt cv av vt)
  lw kt cv := k0_pay11 (k0_pay95 q u kt) (k0_pay96 cv)
  go kt cv := Scalar.extui (Scalar.cmpf .ogt (k0_pay12 (k0_pay95 q u kt) (k0_pay96 cv)) floor)

/-- The third pair's. -/
def trip3 (q : FVec F S256x128 .bf16) (u : FVec F S256x256 .bf16) : Trip F S1x8192x512 S4x256x128 .bf16 .f32 where
  chk := k0_chk3
  dec := k0_chk3.dec
  off := k0_off9
  sz := S1x128x128.size
  inb := k0_off9_inb
  slot := Rect.unit (s := S4x256x128) ![2, 0, 0] S1x256x128.size inb_S4x256x128_S1x256x128_2_0_0
  acc kt cv av vt := k0_pay13 (k0_pay103 q u kt cv av vt)
  lw kt cv := k0_pay15 (k0_pay101 q u kt) (k0_pay102 cv)
  go kt cv := Scalar.extui (Scalar.cmpf .ogt (k0_pay16 (k0_pay101 q u kt) (k0_pay102 cv)) floor)

/-- The fourth pair's. -/
def trip4 (q : FVec F S256x128 .bf16) (u : FVec F S256x256 .bf16) : Trip F S1x8192x512 S4x256x128 .bf16 .f32 where
  chk := k0_chk4
  dec := k0_chk4.dec
  off := k0_off12
  sz := S1x128x128.size
  inb := k0_off12_inb
  slot := Rect.unit (s := S4x256x128) ![3, 0, 0] S1x256x128.size inb_S4x256x128_S1x256x128_3_0_0
  acc kt cv av vt := k0_pay17 (k0_pay109 q u kt cv av vt)
  lw kt cv := k0_pay19 (k0_pay107 q u kt) (k0_pay108 cv)
  go kt cv := Scalar.extui (Scalar.cmpf .ogt (k0_pay20 (k0_pay107 q u kt) (k0_pay108 cv)) floor)

/-! ### Each counter passes its check -/

instance : ∀ j, Decidable (k0_chk1 j) := k0_chk1.dec
instance : ∀ j, Decidable (k0_chk2 j) := k0_chk2.dec
instance : ∀ j, Decidable (k0_chk3 j) := k0_chk3.dec
instance : ∀ j, Decidable (k0_chk4 j) := k0_chk4.dec

theorem chk1 : ∀ k < 62, k0_chk1 (BitVec.ofNat 32 k) := by decide
theorem chk2 : ∀ k < 62, k0_chk2 (BitVec.ofNat 32 k) := by decide
theorem chk3 : ∀ k < 62, k0_chk3 (BitVec.ofNat 32 k) := by decide
theorem chk4 : ∀ k < 62, k0_chk4 (BitVec.ofNat 32 k) := by decide

/-! ### What the loops leave -/

/-- The first pair's accumulator after `n` tiles, from the flag, the log-weight and the accumulator it starts with. -/
def sweep1 (q : FVec F S256x128 .bf16) (u : FVec F S256x256 .bf16) (x1 x2 : Vec F S1x8192x512 .bf16) (n : ℕ) (go : BitVec 32)
    (cv av : Vec F S1x256x128 .f32) : Vec F S1x256x128 .f32 :=
  sweep (trip1 q u) (tile x1 k0_chk1 k0_off3 k0_off3_inb) (tile x2 k0_chk1 k0_off3 k0_off3_inb) n go cv av

/-- The second pair's accumulator after `n` tiles, from the flag, the log-weight and the accumulator it starts with. -/
def sweep2 (q : FVec F S256x128 .bf16) (u : FVec F S256x256 .bf16) (x1 x2 : Vec F S1x8192x512 .bf16) (n : ℕ) (go : BitVec 32)
    (cv av : Vec F S1x256x128 .f32) : Vec F S1x256x128 .f32 :=
  sweep (trip2 q u) (tile x1 k0_chk2 k0_off6 k0_off6_inb) (tile x2 k0_chk2 k0_off6 k0_off6_inb) n go cv av

/-- The third pair's accumulator after `n` tiles, from the flag, the log-weight and the accumulator it starts with. -/
def sweep3 (q : FVec F S256x128 .bf16) (u : FVec F S256x256 .bf16) (x1 x2 : Vec F S1x8192x512 .bf16) (n : ℕ) (go : BitVec 32)
    (cv av : Vec F S1x256x128 .f32) : Vec F S1x256x128 .f32 :=
  sweep (trip3 q u) (tile x1 k0_chk3 k0_off9 k0_off9_inb) (tile x2 k0_chk3 k0_off9 k0_off9_inb) n go cv av

/-- The fourth pair's accumulator after `n` tiles, from the flag, the log-weight and the accumulator it starts with. -/
def sweep4 (q : FVec F S256x128 .bf16) (u : FVec F S256x256 .bf16) (x1 x2 : Vec F S1x8192x512 .bf16) (n : ℕ) (go : BitVec 32)
    (cv av : Vec F S1x256x128 .f32) : Vec F S1x256x128 .f32 :=
  sweep (trip4 q u) (tile x1 k0_chk4 k0_off12 k0_off12_inb) (tile x2 k0_chk4 k0_off12 k0_off12_inb) n go cv av

/-! ### The rules -/

section

variable (c : Dev nD) (i : grid0.Coords)
variable (arg3 : Memref sig .tc .vmem S1x8192x512 .bf16) (harg3 : arg3.IsWhole)
variable (arg4 : Memref sig .tc .vmem S1x8192x512 .bf16) (harg4 : arg4.IsWhole)
variable (arg7 : Memref sig .tc .vmem S4x256x128 .f32) (harg7 : arg7.IsWhole)
variable (arg8 : Memref sig .tc .vmem S4x256x128 .f32) (harg8 : arg8.IsWhole)
variable (q : FVec F S256x128 .bf16) (u : FVec F S256x256 .bf16) (x1 x2 : Vec F S1x8192x512 .bf16)

/-- What a whole memref holding `x` reads at a tile whose counter passes the check. -/
theorem readAt_tile (a : Memref sig .tc .vmem S1x8192x512 .bf16) (ha : a.IsWhole) (x : Vec F S1x8192x512 .bf16)
    (chk : BitVec 32 → Prop) [∀ j, Decidable (chk j)] (off : BitVec 32 → Fin 3 → ℕ)
    (inb : ∀ j, chk j → ∀ a, off j a + S1x128x128.size a ≤ S1x8192x512.size a) (k : ℕ) (h : chk (BitVec.ofNat 32 k)) :
    a.view.readAt (Elt F) (Rect.unit (s := S1x8192x512) (off (BitVec.ofNat 32 k)) S1x128x128.size (inb _ h)).toLoadRect
      (ha.unread x) = tile x chk off inb k := by
  unfold tile
  rw [dif_pos h]
  funext y
  exact Memref.IsWhole.readAt_unread ha x _ y

/-- The first loop's rule. -/
theorem loop1 (E : Set ℕ) (n : ℕ) (j go : BitVec 32) (cv av : (trip1 q u).Slot) (ht : Turn j n) :
    spec (trip1 q u) c arg3 arg4 arg7 arg8 (harg3.unread x1) (harg4.unread x2) ((Λ₀ F).Result (1 : (Λ₀ F).Label))
        (tile x1 k0_chk1 k0_off3 k0_off3_inb) (tile x2 k0_chk1 k0_off3 k0_off3_inb) n go cv av
      ≤ wp frame (wpE (defs₀ (F := F)) Variants.nat (c : Thread nD τ) (some n)) E
          (defs₀ .tc (1 : (Λ₀ F).Label) ⟨i, arg3, harg3, q, u, arg7, harg7, arg8, harg8, arg4, harg4, j, go⟩) :=
  sweep_spec (trip1 q u) defs₀ c arg3 arg4 arg7 arg8 (harg3.unread x1) (harg4.unread x2) (ℓ := (1 : (Λ₀ F).Label))
    (fun j go => ⟨i, arg3, harg3, q, u, arg7, harg7, arg8, harg8, arg4, harg4, j, go⟩) (fun j go => (j, go))
    (fun _ _ => View.loadsAt_vmem h_S1x128x128) (fun _ _ => View.loadsAt_vmem h_S1x128x128)
    (View.loadsAt_vmem h_S1x256x128) (View.loadsAt_vmem h_S1x256x128)
    (View.stores_vmem_bits_univ h_S1x256x128 rfl) (View.stores_vmem_bits_univ h_S1x256x128 rfl)
    (fun j go => by
      show cc0_while1 _ _ _ _ _ _ _ _ _ _ _ _ _ = _
      rw [cc0_while1_eq_skeleton]; unfold cc0_while1_skel tripProg
      simp only [k0_part11_eq_skeleton]
      rfl)
    chk1 _ _ (fun k hk h => readAt_tile arg3 harg3 x1 k0_chk1 k0_off3 k0_off3_inb k h)
    (fun k hk h => readAt_tile arg4 harg4 x2 k0_chk1 k0_off3 k0_off3_inb k h) E n j go cv av ht

/-- The second loop's rule. -/
theorem loop2 (E : Set ℕ) (n : ℕ) (j go : BitVec 32) (cv av : (trip2 q u).Slot) (ht : Turn j n) :
    spec (trip2 q u) c arg3 arg4 arg7 arg8 (harg3.unread x1) (harg4.unread x2) ((Λ₀ F).Result (2 : (Λ₀ F).Label))
        (tile x1 k0_chk2 k0_off6 k0_off6_inb) (tile x2 k0_chk2 k0_off6 k0_off6_inb) n go cv av
      ≤ wp frame (wpE (defs₀ (F := F)) Variants.nat (c : Thread nD τ) (some n)) E
          (defs₀ .tc (2 : (Λ₀ F).Label) ⟨i, arg3, harg3, q, u, arg7, harg7, arg8, harg8, arg4, harg4, j, go⟩) :=
  sweep_spec (trip2 q u) defs₀ c arg3 arg4 arg7 arg8 (harg3.unread x1) (harg4.unread x2) (ℓ := (2 : (Λ₀ F).Label))
    (fun j go => ⟨i, arg3, harg3, q, u, arg7, harg7, arg8, harg8, arg4, harg4, j, go⟩) (fun j go => (j, go))
    (fun _ _ => View.loadsAt_vmem h_S1x128x128) (fun _ _ => View.loadsAt_vmem h_S1x128x128)
    (View.loadsAt_vmem h_S1x256x128) (View.loadsAt_vmem h_S1x256x128)
    (View.stores_vmem_bits_univ h_S1x256x128 rfl) (View.stores_vmem_bits_univ h_S1x256x128 rfl)
    (fun j go => by
      show cc0_while2 _ _ _ _ _ _ _ _ _ _ _ _ _ = _
      rw [cc0_while2_eq_skeleton]; unfold cc0_while2_skel tripProg
      simp only [k0_part12_eq_skeleton]
      rfl)
    chk2 _ _ (fun k hk h => readAt_tile arg3 harg3 x1 k0_chk2 k0_off6 k0_off6_inb k h)
    (fun k hk h => readAt_tile arg4 harg4 x2 k0_chk2 k0_off6 k0_off6_inb k h) E n j go cv av ht

/-- The third loop's rule. -/
theorem loop3 (E : Set ℕ) (n : ℕ) (j go : BitVec 32) (cv av : (trip3 q u).Slot) (ht : Turn j n) :
    spec (trip3 q u) c arg3 arg4 arg7 arg8 (harg3.unread x1) (harg4.unread x2) ((Λ₀ F).Result (3 : (Λ₀ F).Label))
        (tile x1 k0_chk3 k0_off9 k0_off9_inb) (tile x2 k0_chk3 k0_off9 k0_off9_inb) n go cv av
      ≤ wp frame (wpE (defs₀ (F := F)) Variants.nat (c : Thread nD τ) (some n)) E
          (defs₀ .tc (3 : (Λ₀ F).Label) ⟨i, arg3, harg3, q, u, arg7, harg7, arg8, harg8, arg4, harg4, j, go⟩) :=
  sweep_spec (trip3 q u) defs₀ c arg3 arg4 arg7 arg8 (harg3.unread x1) (harg4.unread x2) (ℓ := (3 : (Λ₀ F).Label))
    (fun j go => ⟨i, arg3, harg3, q, u, arg7, harg7, arg8, harg8, arg4, harg4, j, go⟩) (fun j go => (j, go))
    (fun _ _ => View.loadsAt_vmem h_S1x128x128) (fun _ _ => View.loadsAt_vmem h_S1x128x128)
    (View.loadsAt_vmem h_S1x256x128) (View.loadsAt_vmem h_S1x256x128)
    (View.stores_vmem_bits_univ h_S1x256x128 rfl) (View.stores_vmem_bits_univ h_S1x256x128 rfl)
    (fun j go => by
      show cc0_while3 _ _ _ _ _ _ _ _ _ _ _ _ _ = _
      rw [cc0_while3_eq_skeleton]; unfold cc0_while3_skel tripProg
      simp only [k0_part13_eq_skeleton]
      rfl)
    chk3 _ _ (fun k hk h => readAt_tile arg3 harg3 x1 k0_chk3 k0_off9 k0_off9_inb k h)
    (fun k hk h => readAt_tile arg4 harg4 x2 k0_chk3 k0_off9 k0_off9_inb k h) E n j go cv av ht

/-- The fourth loop's rule. -/
theorem loop4 (E : Set ℕ) (n : ℕ) (j go : BitVec 32) (cv av : (trip4 q u).Slot) (ht : Turn j n) :
    spec (trip4 q u) c arg3 arg4 arg7 arg8 (harg3.unread x1) (harg4.unread x2) ((Λ₀ F).Result (4 : (Λ₀ F).Label))
        (tile x1 k0_chk4 k0_off12 k0_off12_inb) (tile x2 k0_chk4 k0_off12 k0_off12_inb) n go cv av
      ≤ wp frame (wpE (defs₀ (F := F)) Variants.nat (c : Thread nD τ) (some n)) E
          (defs₀ .tc (4 : (Λ₀ F).Label) ⟨i, arg3, harg3, q, u, arg7, harg7, arg8, harg8, arg4, harg4, j, go⟩) :=
  sweep_spec (trip4 q u) defs₀ c arg3 arg4 arg7 arg8 (harg3.unread x1) (harg4.unread x2) (ℓ := (4 : (Λ₀ F).Label))
    (fun j go => ⟨i, arg3, harg3, q, u, arg7, harg7, arg8, harg8, arg4, harg4, j, go⟩) (fun j go => (j, go))
    (fun _ _ => View.loadsAt_vmem h_S1x128x128) (fun _ _ => View.loadsAt_vmem h_S1x128x128)
    (View.loadsAt_vmem h_S1x256x128) (View.loadsAt_vmem h_S1x256x128)
    (View.stores_vmem_bits_univ h_S1x256x128 rfl) (View.stores_vmem_bits_univ h_S1x256x128 rfl)
    (fun j go => by
      show cc0_while4 _ _ _ _ _ _ _ _ _ _ _ _ _ = _
      rw [cc0_while4_eq_skeleton]; unfold cc0_while4_skel tripProg
      simp only [k0_part14_eq_skeleton]
      rfl)
    chk4 _ _ (fun k hk h => readAt_tile arg3 harg3 x1 k0_chk4 k0_off12 k0_off12_inb k h)
    (fun k hk h => readAt_tile arg4 harg4 x2 k0_chk4 k0_off12 k0_off12_inb k h) E n j go cv av ht

/-! ### The calls -/

/-- The first loop called from the body. -/
theorem call1 (E : Set ℕ) (n : ℕ) (j go : BitVec 32) (ht : Turn j n) (cv av : Vec F S1x256x128 .f32)
    (f7 : Buf (Elt F) (arg7.view.loc (c : Thread nD τ))) (f8 : Buf (Elt F) (arg8.view.loc (c : Thread nD τ)))
    {B : Type} (k : BitVec 32 × BitVec 32 → Prog (TpuEff nD τ sig (Elt F) (Λ₀ F) .tc) B) (Q : B → sProp 𝕄) :
    iprop((arg3.view.loc (c : Thread nD τ) ↦[arg3.view.set]{fullShare} (harg3.unread x1)) ∗ (arg4.view.loc (c : Thread nD τ) ↦[arg4.view.set]{fullShare} (harg4.unread x2))
      ∗ (arg7.view.loc (c : Thread nD τ) ↦[arg7.view.set]{fullShare} arg7.view.writes (Elt F) f7 [⟨(Rect.unit (s := S4x256x128) ![0, 0, 0] S1x256x128.size inb_S4x256x128_S1x256x128_0_0_0), cv⟩])
      ∗ (arg8.view.loc (c : Thread nD τ) ↦[arg8.view.set]{fullShare} arg8.view.writes (Elt F) f8 [⟨(Rect.unit (s := S4x256x128) ![0, 0, 0] S1x256x128.size inb_S4x256x128_S1x256x128_0_0_0), av⟩])
      ∗ (∀ (r : BitVec 32 × BitVec 32) (g7 : Buf (Elt F) (arg7.view.loc (c : Thread nD τ))) (g8 : Buf (Elt F) (arg8.view.loc (c : Thread nD τ))),
          ⌜arg8.view.readAt (Elt F) (Rect.unit (s := S4x256x128) ![0, 0, 0] S1x256x128.size inb_S4x256x128_S1x256x128_0_0_0).toLoadRect g8 = sweep1 q u x1 x2 n go cv av⌝
          -∗ (arg3.view.loc (c : Thread nD τ) ↦[arg3.view.set]{fullShare} (harg3.unread x1)) -∗ (arg4.view.loc (c : Thread nD τ) ↦[arg4.view.set]{fullShare} (harg4.unread x2))
          -∗ (arg7.view.loc (c : Thread nD τ) ↦[arg7.view.set]{fullShare} g7) -∗ (arg8.view.loc (c : Thread nD τ) ↦[arg8.view.set]{fullShare} g8)
          -∗ wp frame (wpE (defs₀ (F := F)) Variants.nat (c : Thread nD τ) none) E (k r) Q))
    ⊢ wp frame (wpE (defs₀ (F := F)) Variants.nat (c : Thread nD τ) none) E
        (.op (.call (1 : (Λ₀ F).Label) ⟨i, arg3, harg3, q, u, arg7, harg7, arg8, harg8, arg4, harg4, j, go⟩) k) Q :=
  sweep_call (trip1 q u) defs₀ c arg3 arg4 arg7 arg8 _ _ _ _ _ n go cv av E
    (loop1 c i arg3 harg3 arg4 harg4 arg7 harg7 arg8 harg8 q u x1 x2 E n j go cv av ht) _ _
    (readAt_stored arg7 _ _ _) (readAt_stored arg8 _ _ _) k Q

/-- The second loop called from the body. -/
theorem call2 (E : Set ℕ) (n : ℕ) (j go : BitVec 32) (ht : Turn j n) (cv av : Vec F S1x256x128 .f32)
    (f7 : Buf (Elt F) (arg7.view.loc (c : Thread nD τ))) (f8 : Buf (Elt F) (arg8.view.loc (c : Thread nD τ)))
    {B : Type} (k : BitVec 32 × BitVec 32 → Prog (TpuEff nD τ sig (Elt F) (Λ₀ F) .tc) B) (Q : B → sProp 𝕄) :
    iprop((arg3.view.loc (c : Thread nD τ) ↦[arg3.view.set]{fullShare} (harg3.unread x1)) ∗ (arg4.view.loc (c : Thread nD τ) ↦[arg4.view.set]{fullShare} (harg4.unread x2))
      ∗ (arg7.view.loc (c : Thread nD τ) ↦[arg7.view.set]{fullShare} arg7.view.writes (Elt F) f7 [⟨(Rect.unit (s := S4x256x128) ![1, 0, 0] S1x256x128.size inb_S4x256x128_S1x256x128_1_0_0), cv⟩])
      ∗ (arg8.view.loc (c : Thread nD τ) ↦[arg8.view.set]{fullShare} arg8.view.writes (Elt F) f8 [⟨(Rect.unit (s := S4x256x128) ![1, 0, 0] S1x256x128.size inb_S4x256x128_S1x256x128_1_0_0), av⟩])
      ∗ (∀ (r : BitVec 32 × BitVec 32) (g7 : Buf (Elt F) (arg7.view.loc (c : Thread nD τ))) (g8 : Buf (Elt F) (arg8.view.loc (c : Thread nD τ))),
          ⌜arg8.view.readAt (Elt F) (Rect.unit (s := S4x256x128) ![1, 0, 0] S1x256x128.size inb_S4x256x128_S1x256x128_1_0_0).toLoadRect g8 = sweep2 q u x1 x2 n go cv av⌝
          -∗ (arg3.view.loc (c : Thread nD τ) ↦[arg3.view.set]{fullShare} (harg3.unread x1)) -∗ (arg4.view.loc (c : Thread nD τ) ↦[arg4.view.set]{fullShare} (harg4.unread x2))
          -∗ (arg7.view.loc (c : Thread nD τ) ↦[arg7.view.set]{fullShare} g7) -∗ (arg8.view.loc (c : Thread nD τ) ↦[arg8.view.set]{fullShare} g8)
          -∗ wp frame (wpE (defs₀ (F := F)) Variants.nat (c : Thread nD τ) none) E (k r) Q))
    ⊢ wp frame (wpE (defs₀ (F := F)) Variants.nat (c : Thread nD τ) none) E
        (.op (.call (2 : (Λ₀ F).Label) ⟨i, arg3, harg3, q, u, arg7, harg7, arg8, harg8, arg4, harg4, j, go⟩) k) Q :=
  sweep_call (trip2 q u) defs₀ c arg3 arg4 arg7 arg8 _ _ _ _ _ n go cv av E
    (loop2 c i arg3 harg3 arg4 harg4 arg7 harg7 arg8 harg8 q u x1 x2 E n j go cv av ht) _ _
    (readAt_stored arg7 _ _ _) (readAt_stored arg8 _ _ _) k Q

/-- The third loop called from the body. -/
theorem call3 (E : Set ℕ) (n : ℕ) (j go : BitVec 32) (ht : Turn j n) (cv av : Vec F S1x256x128 .f32)
    (f7 : Buf (Elt F) (arg7.view.loc (c : Thread nD τ))) (f8 : Buf (Elt F) (arg8.view.loc (c : Thread nD τ)))
    {B : Type} (k : BitVec 32 × BitVec 32 → Prog (TpuEff nD τ sig (Elt F) (Λ₀ F) .tc) B) (Q : B → sProp 𝕄) :
    iprop((arg3.view.loc (c : Thread nD τ) ↦[arg3.view.set]{fullShare} (harg3.unread x1)) ∗ (arg4.view.loc (c : Thread nD τ) ↦[arg4.view.set]{fullShare} (harg4.unread x2))
      ∗ (arg7.view.loc (c : Thread nD τ) ↦[arg7.view.set]{fullShare} arg7.view.writes (Elt F) f7 [⟨(Rect.unit (s := S4x256x128) ![2, 0, 0] S1x256x128.size inb_S4x256x128_S1x256x128_2_0_0), cv⟩])
      ∗ (arg8.view.loc (c : Thread nD τ) ↦[arg8.view.set]{fullShare} arg8.view.writes (Elt F) f8 [⟨(Rect.unit (s := S4x256x128) ![2, 0, 0] S1x256x128.size inb_S4x256x128_S1x256x128_2_0_0), av⟩])
      ∗ (∀ (r : BitVec 32 × BitVec 32) (g7 : Buf (Elt F) (arg7.view.loc (c : Thread nD τ))) (g8 : Buf (Elt F) (arg8.view.loc (c : Thread nD τ))),
          ⌜arg8.view.readAt (Elt F) (Rect.unit (s := S4x256x128) ![2, 0, 0] S1x256x128.size inb_S4x256x128_S1x256x128_2_0_0).toLoadRect g8 = sweep3 q u x1 x2 n go cv av⌝
          -∗ (arg3.view.loc (c : Thread nD τ) ↦[arg3.view.set]{fullShare} (harg3.unread x1)) -∗ (arg4.view.loc (c : Thread nD τ) ↦[arg4.view.set]{fullShare} (harg4.unread x2))
          -∗ (arg7.view.loc (c : Thread nD τ) ↦[arg7.view.set]{fullShare} g7) -∗ (arg8.view.loc (c : Thread nD τ) ↦[arg8.view.set]{fullShare} g8)
          -∗ wp frame (wpE (defs₀ (F := F)) Variants.nat (c : Thread nD τ) none) E (k r) Q))
    ⊢ wp frame (wpE (defs₀ (F := F)) Variants.nat (c : Thread nD τ) none) E
        (.op (.call (3 : (Λ₀ F).Label) ⟨i, arg3, harg3, q, u, arg7, harg7, arg8, harg8, arg4, harg4, j, go⟩) k) Q :=
  sweep_call (trip3 q u) defs₀ c arg3 arg4 arg7 arg8 _ _ _ _ _ n go cv av E
    (loop3 c i arg3 harg3 arg4 harg4 arg7 harg7 arg8 harg8 q u x1 x2 E n j go cv av ht) _ _
    (readAt_stored arg7 _ _ _) (readAt_stored arg8 _ _ _) k Q

/-- The fourth loop called from the body. -/
theorem call4 (E : Set ℕ) (n : ℕ) (j go : BitVec 32) (ht : Turn j n) (cv av : Vec F S1x256x128 .f32)
    (f7 : Buf (Elt F) (arg7.view.loc (c : Thread nD τ))) (f8 : Buf (Elt F) (arg8.view.loc (c : Thread nD τ)))
    {B : Type} (k : BitVec 32 × BitVec 32 → Prog (TpuEff nD τ sig (Elt F) (Λ₀ F) .tc) B) (Q : B → sProp 𝕄) :
    iprop((arg3.view.loc (c : Thread nD τ) ↦[arg3.view.set]{fullShare} (harg3.unread x1)) ∗ (arg4.view.loc (c : Thread nD τ) ↦[arg4.view.set]{fullShare} (harg4.unread x2))
      ∗ (arg7.view.loc (c : Thread nD τ) ↦[arg7.view.set]{fullShare} arg7.view.writes (Elt F) f7 [⟨(Rect.unit (s := S4x256x128) ![3, 0, 0] S1x256x128.size inb_S4x256x128_S1x256x128_3_0_0), cv⟩])
      ∗ (arg8.view.loc (c : Thread nD τ) ↦[arg8.view.set]{fullShare} arg8.view.writes (Elt F) f8 [⟨(Rect.unit (s := S4x256x128) ![3, 0, 0] S1x256x128.size inb_S4x256x128_S1x256x128_3_0_0), av⟩])
      ∗ (∀ (r : BitVec 32 × BitVec 32) (g7 : Buf (Elt F) (arg7.view.loc (c : Thread nD τ))) (g8 : Buf (Elt F) (arg8.view.loc (c : Thread nD τ))),
          ⌜arg8.view.readAt (Elt F) (Rect.unit (s := S4x256x128) ![3, 0, 0] S1x256x128.size inb_S4x256x128_S1x256x128_3_0_0).toLoadRect g8 = sweep4 q u x1 x2 n go cv av⌝
          -∗ (arg3.view.loc (c : Thread nD τ) ↦[arg3.view.set]{fullShare} (harg3.unread x1)) -∗ (arg4.view.loc (c : Thread nD τ) ↦[arg4.view.set]{fullShare} (harg4.unread x2))
          -∗ (arg7.view.loc (c : Thread nD τ) ↦[arg7.view.set]{fullShare} g7) -∗ (arg8.view.loc (c : Thread nD τ) ↦[arg8.view.set]{fullShare} g8)
          -∗ wp frame (wpE (defs₀ (F := F)) Variants.nat (c : Thread nD τ) none) E (k r) Q))
    ⊢ wp frame (wpE (defs₀ (F := F)) Variants.nat (c : Thread nD τ) none) E
        (.op (.call (4 : (Λ₀ F).Label) ⟨i, arg3, harg3, q, u, arg7, harg7, arg8, harg8, arg4, harg4, j, go⟩) k) Q :=
  sweep_call (trip4 q u) defs₀ c arg3 arg4 arg7 arg8 _ _ _ _ _ n go cv av E
    (loop4 c i arg3 harg3 arg4 harg4 arg7 harg7 arg8 harg8 q u x1 x2 E n j go cv av ht) _ _
    (readAt_stored arg7 _ _ _) (readAt_stored arg8 _ _ _) k Q

end

end Cert.Proof.KI

end
-- ==== Proof.KI.Body.lean ====
/-
  The idealized attention kernel's body on any staging memrefs: what it leaves in its output block, found by running it.
-/
module

public import proofs.«01_k».proof.Proof.KI.Trips
public import proofs.«01_k».proof.Proof.Gen.KernelIdeal.Launch
public import Idealize.ShloMosaic.Lib.Pipeline.FrameBody
public import Idealize.ShloMosaic.Lib.Ring
public import Idealize.ShloMosaic.Lib.WordCmp

@[expose] public section

set_option maxRecDepth 16384

noncomputable section

namespace Cert.Proof.KI

open Cert.KernelIdeal Cert.KernelIdeal.Gen Cert.Proof.Sweep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The tiles below the previous one, at query tile `i`. -/
def below (i : grid0.Coords) : ℕ := (i 1).val - 1

/-- The loops' counter starts at the tile two below the query tile. -/
theorem turn_start (i : grid0.Coords) : Turn (Scalar.subi (BitVec.ofNat 32 (i 1).val) 2#32) (below i) := by
  have h : (i 1).val < 64 := (i 1).isLt
  unfold below
  generalize (i 1).val = k at h
  match k, h with
  | 0, _ => exact .inl ⟨rfl, by decide⟩
  | 1, _ => exact .inl ⟨rfl, by decide⟩
  | k + 2, h => exact .inr ⟨k, by omega, rfl,
      (by decide : ∀ k < 62, Scalar.subi (BitVec.ofNat 32 (k + 2)) 2#32 = BitVec.ofNat 32 k) k (by omega)⟩

set_option maxHeartbeats 1000000 in
noncomputable def bodyRun (c : Dev nD) (i : grid0.Coords) (arg2 : Memref sig .tc .vmem S1x128x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S256x256 .bf16) (harg5 : arg5.IsWhole) (arg6 : Memref sig .tc .vmem S1x128x512 .bf16) (harg6 : arg6.IsWhole) (arg7 : Memref sig .tc .vmem S4x256x128 .f32) (harg7 : arg7.IsWhole) (arg8 : Memref sig .tc .vmem S4x256x128 .f32) (harg8 : arg8.IsWhole)
    (x0 : Vec F S1x128x512 .bf16) (x1 : Vec F S1x8192x512 .bf16) (x2 : Vec F S1x8192x512 .bf16) (x3 : Vec F S256x256 .bf16) :
    { L4 : List (View.Piece (Elt F) S1x128x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d) ∗ (∃ d, owns (c : Thread nD τ) arg8 fullShare d)) -∗ K ⟨⟩))
          ⊢ wp frame (wpE (defs₀ (F := F)) Variants.nat c none) E (cc0_stick_breaking_attention i arg2 harg2 arg3 harg3 arg4 harg4 arg5 harg5 arg6 harg6 arg7 harg7 arg8 harg8) K } := by
  refine ⟨?_, fun E K => ?run⟩
  case run =>
    simp only [cc0_stick_breaking_attention_eq_skeleton]; unfold cc0_stick_breaking_attention_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec
    iapply (call1 c i arg3 harg3 arg4 harg4 arg7 harg7 arg8 harg8 _ _ x1 x2 E (below i) _ _ (turn_start i))
    isplitl [H1]; · iexact H1
    isplitl [H2]; · iexact H2
    isplitl [HS0]; · iexact HS0
    isplitl [HS1]; · iexact HS1
    iintro %r1 %g71 %g81 %h81 H1 H2 HS0 HS1
    simp only [Prog.lift, Prog.bind_op, Prog.bind_ret]
    iapply (wp_load Variants.nat (c : Thread nD τ) none E (m := arg8) (setOn_sub arg8 _)) $$ HS1; iintro HS1
    rw [h81]
    sl_exec
    iapply (call2 c i arg3 harg3 arg4 harg4 arg7 harg7 arg8 harg8 _ _ x1 x2 E (below i) _ _ (turn_start i))
    isplitl [H1]; · iexact H1
    isplitl [H2]; · iexact H2
    isplitl [HS0]; · iexact HS0
    isplitl [HS1]; · iexact HS1
    iintro %r2 %g72 %g82 %h82 H1 H2 HS0 HS1
    simp only [Prog.lift, Prog.bind_op, Prog.bind_ret]
    iapply (wp_load Variants.nat (c : Thread nD τ) none E (m := arg8) (setOn_sub arg8 _)) $$ HS1; iintro HS1
    rw [h82]
    sl_exec
    iapply (call3 c i arg3 harg3 arg4 harg4 arg7 harg7 arg8 harg8 _ _ x1 x2 E (below i) _ _ (turn_start i))
    isplitl [H1]; · iexact H1
    isplitl [H2]; · iexact H2
    isplitl [HS0]; · iexact HS0
    isplitl [HS1]; · iexact HS1
    iintro %r3 %g73 %g83 %h83 H1 H2 HS0 HS1
    simp only [Prog.lift, Prog.bind_op, Prog.bind_ret]
    iapply (wp_load Variants.nat (c : Thread nD τ) none E (m := arg8) (setOn_sub arg8 _)) $$ HS1; iintro HS1
    rw [h83]
    sl_exec
    iapply (call4 c i arg3 harg3 arg4 harg4 arg7 harg7 arg8 harg8 _ _ x1 x2 E (below i) _ _ (turn_start i))
    isplitl [H1]; · iexact H1
    isplitl [H2]; · iexact H2
    isplitl [HS0]; · iexact HS0
    isplitl [HS1]; · iexact HS1
    iintro %r4 %g74 %g84 %h84 H1 H2 HS0 HS1
    simp only [Prog.lift, Prog.bind_op, Prog.bind_ret]
    iapply (wp_load Variants.nat (c : Thread nD τ) none E (m := arg8) (setOn_sub arg8 _)) $$ HS1; iintro HS1
    rw [h84]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _, _; isplitr; swap; · iexact HS0
      ipureintro; rfl
    iexists _, _; isplitr; swap; · iexact HS1
    ipureintro; rfl

end Cert.Proof.KI

end
-- ==== Proof.KI.Out.lean ====
/-
  What the idealized attention kernel's body leaves, in closed form: the four pairs of heads write the four quarters of the
  block, each the same function (`outBlock`) of its quarter of the queries and of its quarter of the keys and values.
-/
module

public import proofs.«01_k».proof.Proof.KI.Body

@[expose] public section

set_option maxRecDepth 16384

noncomputable section

namespace Cert.Proof.KI

open Cert.KernelIdeal Cert.KernelIdeal.Gen Cert.Proof.Sweep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A block read through a rectangle. -/
def ld {s : Shape} {e : EltTy} (x : Vec F s e) (r : Rect s) : r.shape.Idx → Elt F e := fun y => x (r.toLoadRect.idx y)

theorem readAt_ld {s : Shape} {e : EltTy} (a : Memref sig .tc .vmem s e) (ha : a.IsWhole) (x : Vec F s e) (r : Rect s) :
    a.view.readAt (Elt F) r.toLoadRect (ha.unread x) = ld x r := by
  funext y; exact Memref.IsWhole.readAt_unread ha x _ y

/-! ### One pair of heads -/

/-- The log-weights' total and the accumulator after the diagonal tile. -/
def diagC (u : FVec F S256x256 .bf16) (q : FVec F S256x128 .bf16) (k : Vec F S1x128x128 .bf16) : FVec F S256x128 .f32 :=
  k0_pay29 u k0_pay23 (k0_pay32 q k) k0_pay27

def diagA (u : FVec F S256x256 .bf16) (q : FVec F S256x128 .bf16) (k v : Vec F S1x128x128 .bf16) : FVec F S256x128 .f32 :=
  k0_pay30 u k0_pay23 (k0_pay31 q k) (k0_pay32 q k) k0_pay27 v

/-- Whether there is a tile before the diagonal one. -/
def hasPrev (i : grid0.Coords) : BitVec 1 := Scalar.cmpi .sge (BitVec.ofNat 32 (i 1).val) 1#32

/-- The flag, the log-weight and the accumulator the loop starts with: after the diagonal tile (`k`, `v`) and the one
    before it (`k'`, `v'`). -/
def startGo (i : grid0.Coords) (u : FVec F S256x256 .bf16) (q : FVec F S256x128 .bf16) (k k' : Vec F S1x128x128 .bf16) : BitVec 32 :=
  Scalar.extui (Scalar.cmpf .ogt (k0_pay37 (diagC u q k) (k0_pay33 u (hasPrev i) q k')) floor)

def startC (i : grid0.Coords) (u : FVec F S256x256 .bf16) (q : FVec F S256x128 .bf16) (k k' : Vec F S1x128x128 .bf16) :
    Vec F S1x256x128 .f32 :=
  k0_pay35 (diagC u q k) (k0_pay33 u (hasPrev i) q k')

def startA (i : grid0.Coords) (u : FVec F S256x256 .bf16) (q : FVec F S256x128 .bf16) (k v k' v' : Vec F S1x128x128 .bf16) :
    Vec F S1x256x128 .f32 :=
  k0_pay36 (hasPrev i) (diagC u q k) (diagA u q k v) (k0_pay31 q k') (k0_pay32 q k') (k0_pay33 u (hasPrev i) q k') v'

/-- The walk down the tiles `n - 1, …, 0`. -/
def walk (q : FVec F S256x128 .bf16) (u : FVec F S256x256 .bf16) (kt vt : ℕ → Vec F S1x128x128 .bf16) :
    ℕ → BitVec 32 → Vec F S1x256x128 .f32 → Vec F S1x256x128 .f32 → Vec F S1x256x128 .f32
  | 0, _, _, a => a
  | n + 1, go, c, a =>
    if Scalar.cmpi .sgt go 0#32 = 1#1 then
      walk q u kt vt n (Scalar.extui (Scalar.cmpf .ogt (k0_pay8 (k0_pay89 q u (kt n)) (k0_pay90 c)) floor))
        (k0_pay7 (k0_pay89 q u (kt n)) (k0_pay90 c)) (k0_pay5 (k0_pay91 q u (kt n) c a (vt n)))
    else a

/-- What a pair of heads writes. -/
def outBlock (i : grid0.Coords) (qb : Vec F S1x128x128 .bf16) (ub : Vec F S256x256 .bf16) (k v k' v' : Vec F S1x128x128 .bf16)
    (kt vt : ℕ → Vec F S1x128x128 .bf16) : Vec F S1x128x128 .bf16 :=
  k0_pay38 k0_pay22 (walk (k0_pay24 qb) (k0_pay21 ub) kt vt (below i) (startGo i (k0_pay21 ub) (k0_pay24 qb) k k')
    (startC i (k0_pay21 ub) (k0_pay24 qb) k k') (startA i (k0_pay21 ub) (k0_pay24 qb) k v k' v'))

/-- A loop whose trips compute what the first pair's do walks as it does. -/
theorem sweep1_eq (q : FVec F S256x128 .bf16) (u : FVec F S256x256 .bf16) (x1 x2 : Vec F S1x8192x512 .bf16) (n : ℕ) (go : BitVec 32)
    (cv av : Vec F S1x256x128 .f32) :
    sweep1 q u x1 x2 n go cv av = walk q u (tile x1 k0_chk1 k0_off3 k0_off3_inb) (tile x2 k0_chk1 k0_off3 k0_off3_inb) n go cv av := by
  unfold sweep1
  induction n generalizing go cv av with
  | zero => rfl
  | succ n ih => rw [walk, ← ih]; rfl

theorem sweep2_eq (q : FVec F S256x128 .bf16) (u : FVec F S256x256 .bf16) (x1 x2 : Vec F S1x8192x512 .bf16) (n : ℕ) (go : BitVec 32)
    (cv av : Vec F S1x256x128 .f32) :
    sweep2 q u x1 x2 n go cv av = walk q u (tile x1 k0_chk2 k0_off6 k0_off6_inb) (tile x2 k0_chk2 k0_off6 k0_off6_inb) n go cv av := by
  unfold sweep2
  induction n generalizing go cv av with
  | zero => rfl
  | succ n ih => rw [walk, ← ih]; rfl

theorem sweep3_eq (q : FVec F S256x128 .bf16) (u : FVec F S256x256 .bf16) (x1 x2 : Vec F S1x8192x512 .bf16) (n : ℕ) (go : BitVec 32)
    (cv av : Vec F S1x256x128 .f32) :
    sweep3 q u x1 x2 n go cv av = walk q u (tile x1 k0_chk3 k0_off9 k0_off9_inb) (tile x2 k0_chk3 k0_off9 k0_off9_inb) n go cv av := by
  unfold sweep3
  induction n generalizing go cv av with
  | zero => rfl
  | succ n ih => rw [walk, ← ih]; rfl

theorem sweep4_eq (q : FVec F S256x128 .bf16) (u : FVec F S256x256 .bf16) (x1 x2 : Vec F S1x8192x512 .bf16) (n : ℕ) (go : BitVec 32)
    (cv av : Vec F S1x256x128 .f32) :
    sweep4 q u x1 x2 n go cv av = walk q u (tile x1 k0_chk4 k0_off12 k0_off12_inb) (tile x2 k0_chk4 k0_off12 k0_off12_inb) n go cv av := by
  unfold sweep4
  induction n generalizing go cv av with
  | zero => rfl
  | succ n ih => rw [walk, ← ih]; rfl

/-! ### The four pieces -/

/-- The quarter of the query block a pair reads, which is the quarter of the output block it writes. -/
abbrev quarter1 : Rect S1x128x512 := Rect.unit (s := S1x128x512) ![0, 0, 0] S1x128x128.size inb_S1x128x512_S1x128x128_0_0_0
abbrev quarter2 : Rect S1x128x512 := Rect.unit (s := S1x128x512) ![0, 0, 128] S1x128x128.size inb_S1x128x512_S1x128x128_0_0_128
abbrev quarter3 : Rect S1x128x512 := Rect.unit (s := S1x128x512) ![0, 0, 256] S1x128x128.size inb_S1x128x512_S1x128x128_0_0_256
abbrev quarter4 : Rect S1x128x512 := Rect.unit (s := S1x128x512) ![0, 0, 384] S1x128x128.size inb_S1x128x512_S1x128x128_0_0_384

/-- The whole matrix of ones. -/
abbrev whole3 : Rect S256x256 := Rect.unit (s := S256x256) ![0, 0] S256x256.size inb_S256x256_S256x256_0_0

/-- The tile of the keys (or the values) at an offset that depends on the grid point alone. -/
abbrev gridTile (off : Fin 3 → ℕ) (inb : ∀ a, off a + S1x128x128.size a ≤ S1x8192x512.size a) : Rect S1x8192x512 :=
  Rect.unit (s := S1x8192x512) off S1x128x128.size inb

/-- What each pair writes, from the four input blocks. -/
def out1 (i : grid0.Coords) (x0 : Vec F S1x128x512 .bf16) (x1 x2 : Vec F S1x8192x512 .bf16) (x3 : Vec F S256x256 .bf16) : Vec F S1x128x128 .bf16 :=
  outBlock i (ld x0 quarter1) (ld x3 whole3) (ld x1 (gridTile (k0_off1 i) (k0_off1_inb i))) (ld x2 (gridTile (k0_off1 i) (k0_off1_inb i)))
    (ld x1 (gridTile (k0_off2 i) (k0_off2_inb i))) (ld x2 (gridTile (k0_off2 i) (k0_off2_inb i)))
    (tile x1 k0_chk1 k0_off3 k0_off3_inb) (tile x2 k0_chk1 k0_off3 k0_off3_inb)

def out2 (i : grid0.Coords) (x0 : Vec F S1x128x512 .bf16) (x1 x2 : Vec F S1x8192x512 .bf16) (x3 : Vec F S256x256 .bf16) : Vec F S1x128x128 .bf16 :=
  outBlock i (ld x0 quarter2) (ld x3 whole3) (ld x1 (gridTile (k0_off4 i) (k0_off4_inb i))) (ld x2 (gridTile (k0_off4 i) (k0_off4_inb i)))
    (ld x1 (gridTile (k0_off5 i) (k0_off5_inb i))) (ld x2 (gridTile (k0_off5 i) (k0_off5_inb i)))
    (tile x1 k0_chk2 k0_off6 k0_off6_inb) (tile x2 k0_chk2 k0_off6 k0_off6_inb)

def out3 (i : grid0.Coords) (x0 : Vec F S1x128x512 .bf16) (x1 x2 : Vec F S1x8192x512 .bf16) (x3 : Vec F S256x256 .bf16) : Vec F S1x128x128 .bf16 :=
  outBlock i (ld x0 quarter3) (ld x3 whole3) (ld x1 (gridTile (k0_off7 i) (k0_off7_inb i))) (ld x2 (gridTile (k0_off7 i) (k0_off7_inb i)))
    (ld x1 (gridTile (k0_off8 i) (k0_off8_inb i))) (ld x2 (gridTile (k0_off8 i) (k0_off8_inb i)))
    (tile x1 k0_chk3 k0_off9 k0_off9_inb) (tile x2 k0_chk3 k0_off9 k0_off9_inb)

def out4 (i : grid0.Coords) (x0 : Vec F S1x128x512 .bf16) (x1 x2 : Vec F S1x8192x512 .bf16) (x3 : Vec F S256x256 .bf16) : Vec F S1x128x128 .bf16 :=
  outBlock i (ld x0 quarter4) (ld x3 whole3) (ld x1 (gridTile (k0_off10 i) (k0_off10_inb i))) (ld x2 (gridTile (k0_off10 i) (k0_off10_inb i)))
    (ld x1 (gridTile (k0_off11 i) (k0_off11_inb i))) (ld x2 (gridTile (k0_off11 i) (k0_off11_inb i)))
    (tile x1 k0_chk4 k0_off12 k0_off12_inb) (tile x2 k0_chk4 k0_off12 k0_off12_inb)

/-- The pieces the body leaves, last written first. -/
def pieces (i : grid0.Coords) (x0 : Vec F S1x128x512 .bf16) (x1 x2 : Vec F S1x8192x512 .bf16) (x3 : Vec F S256x256 .bf16) :
    List (View.Piece (Elt F) S1x128x512 .bf16) :=
  [⟨quarter4, out4 i x0 x1 x2 x3⟩, ⟨quarter3, out3 i x0 x1 x2 x3⟩, ⟨quarter2, out2 i x0 x1 x2 x3⟩, ⟨quarter1, out1 i x0 x1 x2 x3⟩]

theorem bodyRun_pieces (c : Dev nD) (i : grid0.Coords) (arg2 : Memref sig .tc .vmem S1x128x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S256x256 .bf16) (harg5 : arg5.IsWhole) (arg6 : Memref sig .tc .vmem S1x128x512 .bf16) (harg6 : arg6.IsWhole) (arg7 : Memref sig .tc .vmem S4x256x128 .f32) (harg7 : arg7.IsWhole) (arg8 : Memref sig .tc .vmem S4x256x128 .f32) (harg8 : arg8.IsWhole)
    (x0 : Vec F S1x128x512 .bf16) (x1 : Vec F S1x8192x512 .bf16) (x2 : Vec F S1x8192x512 .bf16) (x3 : Vec F S256x256 .bf16) :
    (bodyRun c i arg2 harg2 arg3 harg3 arg4 harg4 arg5 harg5 arg6 harg6 arg7 harg7 arg8 harg8 x0 x1 x2 x3).1 = pieces i x0 x1 x2 x3 := by
  unfold pieces out1 out2 out3 out4
  simp only [← readAt_ld arg2 harg2, ← readAt_ld arg3 harg3 x1, ← readAt_ld arg4 harg4 x2, ← readAt_ld arg5 harg5]
  unfold outBlock
  simp only [← sweep1_eq, ← sweep2_eq, ← sweep3_eq, ← sweep4_eq]
  unfold bodyRun
  dsimp only
  congr 1

/-- The body's run, with its pieces in closed form. -/
theorem body_runs (c : Dev nD) (i : grid0.Coords) (arg2 : Memref sig .tc .vmem S1x128x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S256x256 .bf16) (harg5 : arg5.IsWhole) (arg6 : Memref sig .tc .vmem S1x128x512 .bf16) (harg6 : arg6.IsWhole) (arg7 : Memref sig .tc .vmem S4x256x128 .f32) (harg7 : arg7.IsWhole) (arg8 : Memref sig .tc .vmem S4x256x128 .f32) (harg8 : arg8.IsWhole)
    (x0 : Vec F S1x128x512 .bf16) (x1 : Vec F S1x8192x512 .bf16) (x2 : Vec F S1x8192x512 .bf16) (x3 : Vec F S256x256 .bf16) (E : Set ℕ) (K : PUnit → sProp 𝕄) :
              iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pieces i x0 x1 x2 x3)) ∗ (∃ d, owns (c : Thread nD τ) arg7 fullShare d) ∗ (∃ d, owns (c : Thread nD τ) arg8 fullShare d)) -∗ K ⟨⟩))
          ⊢ wp frame (wpE (defs₀ (F := F)) Variants.nat c none) E (cc0_stick_breaking_attention i arg2 harg2 arg3 harg3 arg4 harg4 arg5 harg5 arg6 harg6 arg7 harg7 arg8 harg8) K := by
  have h := (bodyRun c i arg2 harg2 arg3 harg3 arg4 harg4 arg5 harg5 arg6 harg6 arg7 harg7 arg8 harg8 x0 x1 x2 x3).2 E K
  rw [bodyRun_pieces] at h
  exact h

end Cert.Proof.KI

end
-- ==== Proof.KI.Frame.lean ====
/-
  The idealized attention kernel's run: the host operations that build the matrix of ones, then the pipelined region, whose
  body is Body.lean's. Every schedule ends with the argument unchanged, every counter at zero, and the result array at what
  the pipeline's writes of `pieces` leave.
-/
module

public import proofs.«01_k».proof.Proof.KI.Out
public import Idealize.ShloMosaic.Lib.Claim

@[expose] public section

set_option maxRecDepth 16384

noncomputable section

namespace Cert.Proof.KI

open Cert.KernelIdeal Cert.KernelIdeal.Gen Cert.Proof.Sweep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### @main up to the region -/

/-- The host operations, in order. -/
abbrev hostLines : List (List (HloOp τ sig (Elt F))) := [hostOps0, hostOps0_1, hostOps0_2, hostOps0_3, hostOps0_4]

/-- Core `c`'s buffers as the region finds them. -/
abbrev V (c : Dev nD) (b : Ref sig .tc) : Buf (Elt F) ((c : Thread nD τ).loc b) :=
  StableHlo.after (List.flatten hostLines) (fun b => m (c, b)) b

/-- No host operation takes a fresh buffer. -/
theorem host_fresh : (hostLines (F := F)).Forall fun l => l.Forall fun op => op.fresh = ∅ := by
  simp only [List.Forall]; repeat' constructor

set_option maxHeartbeats 800000 in
/-- @main is the host operations, then the region. -/
theorem hmain : Pipeline.HMain (Ix := Unit) (Name := ℕ) (U := UR sig nD τ) (Lvl := ℕ) cfgs 0 defs₀ Variants.nat m (main (F := F)) (V m) :=
  Pipeline.hmain_prefixes cfgs 0 defs₀ Variants.nat m main hostLines
    (by simp only [List.Forall]; exact ⟨hostOps0_sub, hostOps0_1_sub, hostOps0_2_sub, hostOps0_3_sub, hostOps0_4_sub⟩)
    host_fresh main_chain

/-- The region finds the argument as launched: no host operation writes it. -/
theorem V_arg (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ### What the windows hold -/

/-- Window `w`'s block at point `t`, read off its array as the region finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The output block at a point: the body's pieces over the point's input blocks. -/
def outAt (c : Dev nD) (t : Fin (cfg0 (F := F)).N) : Vec F S1x128x512 .bf16 :=
  (Memref.whole cc0_stg4_0 : Memref sig .tc .vmem S1x128x512 .bf16).view.read (Elt F)
    ((Memref.whole cc0_stg4_0 : Memref sig .tc .vmem S1x128x512 .bf16).view.writes (Elt F)
      (Memref.whole cc0_stg4_0 : Memref sig .tc .vmem S1x128x512 .bf16).view.junk
      (pieces (grid0.coords t) (iblk m c 0 t) (iblk m c 1 t) (iblk m c 2 t) (iblk m c 3 t)))

/-- The four quarters make the block. -/
theorem pieces_cover (i : grid0.Coords) (x0 : Vec F S1x128x512 .bf16) (x1 x2 : Vec F S1x8192x512 .bf16) (x3 : Vec F S256x256 .bf16)
    (y : S1x128x512.Idx) : ∃ pc ∈ pieces i x0 x1 x2 x3, y ∈ pc.1.set :=
  View.cover_of_tiledL (pieces i x0 x1 x2 x3) S1x128x128.size (by sl_kernel_rfl) y

/-- The pipeline's proof data: inputs at their blocks, the output at `outAt`, nothing carried between points. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = outAt m c t := by
  dsimp only [dats]
  exact Eq.refl (outAt m c t)

/-- An input whose body leaves its block in place holds its block at every point. -/
theorem before_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ### The body at a point -/

/-- The staging memrefs at a point. -/
abbrev ms0 (t : Fin (cfg0 (F := F)).N) : Memref sig .tc .vmem S1x128x512 .bf16 := win0_0.stage ((cfg0 (F := F)).slots t 0)
abbrev ms1 (t : Fin (cfg0 (F := F)).N) : Memref sig .tc .vmem S1x8192x512 .bf16 := win0_1.stage ((cfg0 (F := F)).slots t 1)
abbrev ms2 (t : Fin (cfg0 (F := F)).N) : Memref sig .tc .vmem S1x8192x512 .bf16 := win0_2.stage ((cfg0 (F := F)).slots t 2)
abbrev ms3 (t : Fin (cfg0 (F := F)).N) : Memref sig .tc .vmem S256x256 .bf16 := win0_3.stage ((cfg0 (F := F)).slots t 3)
abbrev ms4 (t : Fin (cfg0 (F := F)).N) : Memref sig .tc .vmem S1x128x512 .bf16 := win0_4.stage ((cfg0 (F := F)).slots t 4)

/-- The invariant: the two scratch buffers at some contents, and the generator register. -/
theorem phi_eq (c : Dev nD) :
    (Pipeline.ΦA spec0 c : sProp 𝕄)
      = iprop(iprop((∃ d, owns (c : Thread nD τ) (Memref.whole cc0_scratch0 : Memref sig .tc .vmem S4x256x128 .f32) fullShare d)
          ∗ (∃ d, owns (c : Thread nD τ) (Memref.whole cc0_scratch1 : Memref sig .tc .vmem S4x256x128 .f32) fullShare d))
        ∗ (∃ r, prngReg c r)) := by
  unfold Pipeline.ΦA; rw [scopedRest0_eq]; simp only [owns_whole]; try rfl

/-- What the body is called with, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem body_at (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, phi_eq]
  unfold outAt
  iintro ⟨⟨⟨HS0, HS1⟩, Hg⟩, Ho, ⟨%d0, H0⟩, ⟨%d1, H1⟩, ⟨%d2, H2⟩, ⟨%d3, H3⟩, ⟨%d4, H4⟩⟩
  iapply (body_runs c (grid0.coords t) _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (pieces_cover _ _ _ _ _)

/-- The body table's row at point `t`'s slots is the body there. -/
theorem row_at (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, row_at]
  exact triple_restated (body_at m c t) rfl .rfl fun _ => .rfl

/-! ### The run and the frame -/

set_option backward.isDefEq.respectTransparency.types false in
/-- Every schedule ends, with the arrays at what the pipeline leaves and every counter at zero. -/
theorem run_full : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m) (hA := A_eq m) (hΦ := fun _ _ => rfl)

/-- THE FRAME: the argument ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).1 2).trans (((dats m 0 c).arrAt_in 2 rfl _).trans ((A_eq m c 2).trans (V_arg m c))), h.2⟩)
    (run_full m ρ)

end Cert.Proof.KI

end
-- ==== Proof.Stick.lean ====
/-
Stick-breaking weights over the extended reals: the weight of one key as the kernel forms it
and as the reference forms it, and the running sums that join tiles of keys.
-/
module

public import Idealize.ShloMosaic.PureOps.Ideal
public import Mathlib.Algebra.BigOperators.Intervals

@[expose] public section

namespace Cert.Stick
open Idealize.ShloMosaic

/-- The softplus of a score, as both programs write it at the ideal instance. -/
noncomputable def soft (z : EReal) : EReal := max z 0 + Ideal.log (1 + Ideal.exp (0 - max z (-z)))

/-- The log of the part of the stick a key leaves for the keys before it. -/
noncomputable def keep (z : EReal) : EReal := 0 - soft z

theorem log_one : Ideal.log 1 = 0 := by
  rw [← EReal.coe_one, Ideal.log_coe, if_neg (by norm_num), Real.log_one, EReal.coe_zero]

theorem soft_top : soft ⊤ = ⊤ := by
  simp [soft, log_one]

theorem soft_bot : soft ⊥ = 0 := by
  simp [soft, log_one]

theorem soft_coe (r : ℝ) :
    soft (r : EReal) = ((max r 0 + Real.log (1 + Real.exp (0 - max r (-r))) : ℝ) : EReal) := by
  have h1 : (0 : ℝ) < 1 + Real.exp (0 - max r (-r)) := by positivity
  have e : (0 : EReal) - max (r : EReal) (-(r : EReal)) = ((0 - max r (-r) : ℝ) : EReal) := by
    push_cast [EReal.coe_sub]; rfl
  rw [soft, e, Ideal.exp_coe]
  rw [show (1 : EReal) + ((Real.exp (0 - max r (-r)) : ℝ) : EReal)
    = ((1 + Real.exp (0 - max r (-r)) : ℝ) : EReal) by push_cast; rfl, Ideal.log_coe,
    if_neg (not_le.mpr h1)]
  push_cast
  rfl

theorem soft_nonneg (z : EReal) : 0 ≤ soft z := by
  induction z using EReal.rec with
  | bot => simp [soft_bot]
  | top => simp [soft_top]
  | coe r =>
    rw [soft_coe]
    have : 0 ≤ Real.log (1 + Real.exp (0 - max r (-r))) :=
      Real.log_nonneg (by have := Real.exp_pos (0 - max r (-r)); linarith)
    exact_mod_cast add_nonneg (le_max_right r 0) this

theorem keep_nonpos (z : EReal) : keep z ≤ 0 := by
  rw [keep, zero_sub]
  exact EReal.neg_le.mpr (by simpa using soft_nonneg z)

theorem keep_ne_top (z : EReal) : keep z ≠ ⊤ := fun h => by
  have := keep_nonpos z
  rw [h] at this
  exact absurd this (by simp)

/-- The score less its softplus is minus the softplus of minus the score. -/
theorem sub_soft (r : ℝ) : (r : EReal) - soft r = -soft (-(r : EReal)) := by
  have : -(r : EReal) = ((-r : ℝ) : EReal) := by push_cast; rfl
  rw [this, soft_coe, soft_coe, ← EReal.coe_sub, ← EReal.coe_neg]
  congr 1
  rw [neg_neg, max_comm (-r) r]
  rcases le_total r 0 with h | h
  · rw [max_eq_right h, max_eq_left (show (0 : ℝ) ≤ -r by linarith)]; ring
  · rw [max_eq_left h, max_eq_right (show -r ≤ (0 : ℝ) by linarith)]; ring

/-- The weight of a key: with the keys after it given by `S`, the reference's exponential (which
takes its own term back out of the sum that holds it) is the kernel's. -/
theorem weight_eq (z S : EReal) :
    Ideal.exp (-soft (-z) + ((S + keep z) - keep z)) = Ideal.exp ((z - soft z) + S) := by
  induction z using EReal.rec with
  | bot => simp [keep, soft_top, soft_bot]
  | top => simp [keep, soft_top, soft_bot]
  | coe r =>
    rw [sub_soft]
    congr 2
    obtain ⟨k, hk⟩ : ∃ k : ℝ, keep (r : EReal) = k :=
      ⟨_, by rw [keep, soft_coe, zero_sub, ← EReal.coe_neg]⟩
    rw [hk]
    exact EReal.add_sub_cancel_right

/-- A value cut into itself and what is left of it, each times a 0/1 entry of the summing matrix,
adds up to the value times that entry. -/
theorem split_mul {x : EReal} (hx : x ≠ ⊤) {u : EReal} (hu : u = 0 ∨ u = 1) :
    x * u + (x - x) * u = x * u := by
  rcases hu with rfl | rfl
  · simp
  · simp only [mul_one]
    induction x using EReal.rec with
    | bot => simp
    | top => exact absurd rfl hx
    | coe r => simp [← EReal.coe_sub]

/-- The keys below position `128 n`, all of them seen, with `C` the log of what the keys from
`128 n` on leave. -/
noncomputable def below (Z V : ℕ → EReal) (n : ℕ) (C : EReal) : EReal :=
  ∑ p ∈ Finset.range (128 * n),
    Ideal.exp ((Z p - soft (Z p))
      + ((∑ p' ∈ Finset.range (128 * n), if p < p' then keep (Z p') else 0) + C)) * V p

theorem below_zero (Z V : ℕ → EReal) (C : EReal) : below Z V 0 C = 0 := by simp [below]

/-- Nothing is left for any key: every weight is 0. -/
theorem below_bot (Z V : ℕ → EReal) (n : ℕ) : below Z V n ⊥ = 0 := by
  simp [below]

/-- One tile more: its own keys, then the keys below it with the tile's total added to `C`. -/
theorem below_succ (Z V : ℕ → EReal) (n : ℕ) (C : EReal) :
    below Z V (n + 1) C
      = (∑ j : Fin 128, Ideal.exp ((Z (128 * n + j) - soft (Z (128 * n + j)))
          + (∑ j' : Fin 128, if j < j' then keep (Z (128 * n + j')) else 0) + C) * V (128 * n + j))
        + below Z V n (C + ∑ j' : Fin 128, keep (Z (128 * n + j'))) := by
  rw [below, show 128 * (n + 1) = 128 * n + 128 by ring, Finset.sum_range_add, add_comm]
  congr 1
  · rw [Finset.sum_range]
    refine Finset.sum_congr rfl fun j _ => ?_
    rw [Finset.sum_range_add, Finset.sum_eq_zero (s := Finset.range (128 * n)), zero_add,
      Finset.sum_range, add_assoc]
    · simp only [add_lt_add_iff_left, Fin.val_fin_lt]
    · intro p hp
      rw [if_neg (by have := Finset.mem_range.mp hp; omega)]
  · refine Finset.sum_congr rfl fun p hp => ?_
    rw [Finset.sum_range_add, Finset.sum_range (n := 128), add_assoc, add_comm C]
    congr 5
    refine Finset.sum_congr rfl fun j _ => ?_
    rw [if_pos (by have := Finset.mem_range.mp hp; omega)]

/-- The whole row as the reference sums it, from `N` keys on, masked to the keys before `pos`. -/
noncomputable def row (Z V : ℕ → EReal) (pos N : ℕ) : EReal :=
  ∑ p ∈ Finset.range N, (if p < pos then Ideal.exp ((Z p - soft (Z p))
    + ∑ p' ∈ Finset.range N, if p < p' then (if p' < pos then keep (Z p') else 0) else 0) else 0) * V p

/-- Keys from `pos` on add nothing. -/
theorem row_add (Z V : ℕ → EReal) (pos N M : ℕ) (h : pos ≤ N) :
    row Z V pos (N + M) = row Z V pos N := by
  rw [row, Finset.sum_range_add, Finset.sum_eq_zero (s := Finset.range M), add_zero, row]
  · refine Finset.sum_congr rfl fun p _ => ?_
    rw [Finset.sum_range_add, Finset.sum_eq_zero (s := Finset.range M), add_zero]
    intro p' _
    rw [if_neg (show ¬ N + p' < pos by omega), ite_self]
  · intro p _
    rw [if_neg (show ¬ N + p < pos by omega), zero_mul]

/-- The row at position `128 i + ρ` is its own tile, masked, then all the tiles below. -/
theorem row_eq (Z V : ℕ → EReal) (i ρ : ℕ) (hρ : ρ < 128) (hi : i < 64) :
    row Z V (128 * i + ρ) 8192
      = (∑ j : Fin 128, (if j.val < ρ then Ideal.exp ((Z (128 * i + j) - soft (Z (128 * i + j)))
          + ∑ j' : Fin 128, if j < j' then (if j'.val < ρ then keep (Z (128 * i + j')) else 0) else 0)
            else 0) * V (128 * i + j))
        + below Z V i (∑ j' : Fin 128, if j'.val < ρ then keep (Z (128 * i + j')) else 0) := by
  rw [show 8192 = (128 * i + 128) + (8192 - (128 * i + 128)) by omega, row_add _ _ _ _ _ (by omega),
    row, Finset.sum_range_add, add_comm]
  congr 1
  · rw [Finset.sum_range]
    refine Finset.sum_congr rfl fun j _ => ?_
    rw [Finset.sum_range_add, Finset.sum_eq_zero (s := Finset.range (128 * i)), zero_add,
      Finset.sum_range]
    · simp only [add_lt_add_iff_left, Fin.val_fin_lt]
    · intro p hp
      rw [if_neg (by have := Finset.mem_range.mp hp; omega)]
  · refine Finset.sum_congr rfl fun p hp => ?_
    have hp := Finset.mem_range.mp hp
    rw [if_pos (by omega), Finset.sum_range_add, Finset.sum_range (n := 128)]
    congr 4
    · refine Finset.sum_congr rfl fun p' hp' => ?_
      have hp' := Finset.mem_range.mp hp'
      rw [if_pos (show p' < 128 * i + ρ by omega)]
    · refine Finset.sum_congr rfl fun j _ => ?_
      rw [if_pos (by omega)]
      simp only [add_lt_add_iff_left]

end Cert.Stick
-- ==== Proof.KI.Read.lean ====
/-
  What the attention kernel's pieces hold at an index, at the ideal instance: the scores, their softplus, the sums over
  later keys that the product with the triangular matrix gives, and the accumulator after each tile. Row `r` of the 256
  stacked rows is query row `r % 128` of the pair's first head (`r < 128`) or second.
-/
module

public import proofs.«01_k».proof.Proof.KI.Out
public import proofs.«01_k».proof.Proof.Stick
public import Idealize.ShloMosaic.Lib.Pointwise
public import Idealize.ShloMosaic.Lib.IdealHost

@[expose] public section

set_option maxRecDepth 16384

noncomputable section

namespace Cert.Proof.KI

open Cert.KernelIdeal Cert.KernelIdeal.Gen Cert.Stick
open Idealize.ShloMosaic

/-- The score of stacked row `r` against key `j` of a tile. -/
def score (q : FVec Ideal S256x128 .bf16) (k : Vec Ideal S1x128x128 .bf16) (r : Fin 256) (j : Fin 128) : EReal :=
  ∑ x : Fin 128, q (ix2 r x) * k (ix3 0 j x)

theorem pay31_at (q : FVec Ideal S256x128 .bf16) (k : Vec Ideal S1x128x128 .bf16) (r : Fin 256) (j : Fin 128) :
    k0_pay31 q k (ix2 r j) = score q k r j := by
  unfold score
  pointwise [k0_pay31]

theorem pay32_at (q : FVec Ideal S256x128 .bf16) (k : Vec Ideal S1x128x128 .bf16) (r : Fin 256) (j : Fin 128) :
    k0_pay32 q k (ix2 r j) = soft (score q k r j) := by
  have h : k0_pay32 q k (ix2 r j)
      = max (k0_pay31 q k (ix2 r j)) 0 + Ideal.log (1 + Ideal.exp (0 - FloatOps.absf (k0_pay31 q k (ix2 r j)))) := by
    pointwise [k0_pay32]
  rw [h, pay31_at]
  rfl

/-- The matrix the log-weights are summed with: its first 128 columns pick the keys after the column's, its last 128
    every key; its lower half repeats the upper. -/
def Tri (u : FVec Ideal S256x256 .bf16) : Prop :=
  ∀ a c : Fin 256, u (ix2 a c) = if 128 ≤ c.val ∨ c.val < a.val % 128 then 1 else 0

/-- The product with that matrix, of values written as themselves beside what their narrowing lost. -/
theorem tri_sum {u : FVec Ideal S256x256 .bf16} (hu : Tri u) (x : Fin 128 → EReal) (hx : ∀ j, x j ≠ ⊤) (c : Fin 256)
    (h1 : ∀ j : Fin 128, j.val < 256) (h2 : ∀ j : Fin 128, 128 + j.val < 256) :
    ∑ j, x j * u (ix2 ⟨j.val, h1 j⟩ c) + ∑ j, (x j - x j) * u (ix2 ⟨128 + j.val, h2 j⟩ c)
      = ∑ j : Fin 128, if 128 ≤ c.val ∨ c.val < j.val then x j else 0 := by
  rw [← Finset.sum_add_distrib]
  refine Finset.sum_congr rfl fun j _ => ?_
  have e1 : u (ix2 ⟨j.val, h1 j⟩ c) = if 128 ≤ c.val ∨ c.val < j.val then 1 else 0 := by
    rw [hu]; simp only [Nat.mod_eq_of_lt j.isLt]
  have e2 : u (ix2 ⟨128 + j.val, h2 j⟩ c) = if 128 ≤ c.val ∨ c.val < j.val then 1 else 0 := by
    rw [hu]; simp only [Nat.add_mod_left, Nat.mod_eq_of_lt j.isLt]
  rw [e1, e2, split_mul (hx j) (by split <;> simp)]
  split <;> simp

theorem select_eq {α : Type} {c : BitVec 1} {p : Prop} [Decidable p] (h : c = 1 ↔ p) (a b : α) :
    Scalar.select c a b = if p then a else b := if_congr h rfl rfl

/-- The diagonal tile's mask: key `l` comes before query row `r % 128`. -/
theorem pay23_at (r : Fin 256) (l : Fin 128) : k0_pay23 (ix2 r l) = 1 ↔ l.val < r.val % 128 := by
  have h : k0_pay23 (ix2 r l) = IntOp.cmpi .slt (BitVec.ofNat 32 l.val) (IntOp.andi (BitVec.ofNat 32 r.val) 127#32) := by
    pointwise [k0_pay23]
  have e : IntOp.andi (BitVec.ofNat 32 r.val) 127#32 = BitVec.ofNat 32 (r.val % 128) :=
    (by decide +kernel : ∀ r : Fin 256, IntOp.andi (BitVec.ofNat 32 r.val) 127#32 = BitVec.ofNat 32 (r.val % 128)) r
  rw [h, e]
  have := (by decide +kernel : ∀ l m : Fin 128, IntOp.cmpi .slt (BitVec.ofNat 32 l.val) (BitVec.ofNat 32 m.val) = 1 ↔ l.val < m.val)
    l ⟨r.val % 128, by omega⟩
  exact this

theorem pay28_at {u : FVec Ideal S256x256 .bf16} (hu : Tri u) (q : FVec Ideal S256x128 .bf16) (k : Vec Ideal S1x128x128 .bf16)
    (r : Fin 256) (c : Fin 256) :
    k0_pay28 u k0_pay23 (k0_pay32 q k) k0_pay27 (ix2 r c)
      = ∑ j : Fin 128, if 128 ≤ c.val ∨ c.val < j.val then (if j.val < r.val % 128 then keep (score q k r j) else 0) else 0 := by
  rw [← tri_sum hu (fun j => if j.val < r.val % 128 then keep (score q k r j) else 0)
    (fun j => by split; exacts [keep_ne_top _, by simp]) c (fun j => by omega) (fun j => by omega)]
  have h : ∀ m : IVec S256x128 1, ∀ a b : FVec Ideal S256x128 .f32, k0_pay28 u m a b (ix2 r c)
      = ∑ x : Fin 128, Scalar.select (m (ix2 r x)) (b (ix2 r x) - a (ix2 r x)) 0 * u (ix2 ⟨x.val, by omega⟩ c)
        + ∑ x : Fin 128, (Scalar.select (m (ix2 r x)) (b (ix2 r x) - a (ix2 r x)) 0
          - Scalar.select (m (ix2 r x)) (b (ix2 r x) - a (ix2 r x)) 0) * u (ix2 ⟨128 + x.val, by omega⟩ c) := by
    intro m a b
    pointwise [k0_pay28]
  have h0 : ∀ x : Fin 128, k0_pay27 (F := Ideal) (ix2 r x) = 0 := by
    intro x; pointwise [k0_pay27]
  rw [h]
  simp only [select_eq (pay23_at _ _), pay32_at, h0, keep]

/-- The log-weight every lane of row `r` carries after the diagonal tile. -/
def diagTot (q : FVec Ideal S256x128 .bf16) (k : Vec Ideal S1x128x128 .bf16) (r : Fin 256) : EReal :=
  ∑ j : Fin 128, if j.val < r.val % 128 then keep (score q k r j) else 0

theorem diagC_at {u : FVec Ideal S256x256 .bf16} (hu : Tri u) (q : FVec Ideal S256x128 .bf16) (k : Vec Ideal S1x128x128 .bf16)
    (r : Fin 256) (l : Fin 128) : diagC u q k (ix2 r l) = diagTot q k r := by
  have h : ∀ m : IVec S256x128 1, ∀ a b : FVec Ideal S256x128 .f32,
      k0_pay29 u m a b (ix2 r l) = k0_pay28 u m a b (ix2 r ⟨128 + l.val, by omega⟩) := by
    intro m a b
    pointwise [k0_pay29]
  rw [diagC, h, pay28_at hu, diagTot]
  exact Finset.sum_congr rfl fun j _ => if_pos (.inl (by simp))

theorem diagA_at {u : FVec Ideal S256x256 .bf16} (hu : Tri u) (q : FVec Ideal S256x128 .bf16) (k v : Vec Ideal S1x128x128 .bf16)
    (r : Fin 256) (l : Fin 128) :
    diagA u q k v (ix2 r l)
      = ∑ j : Fin 128, (if j.val < r.val % 128 then Ideal.exp ((score q k r j - soft (score q k r j))
          + ∑ j' : Fin 128, if j < j' then (if j'.val < r.val % 128 then keep (score q k r j') else 0) else 0) else 0)
        * v (ix3 0 j l) := by
  have h : ∀ m : IVec S256x128 1, ∀ z a b : FVec Ideal S256x128 .f32, k0_pay30 u m z a b v (ix2 r l)
      = ∑ x : Fin 128, Scalar.select (m (ix2 r x))
          (Ideal.exp (z (ix2 r x) - a (ix2 r x) + k0_pay28 u m a b (ix2 r ⟨x.val, by omega⟩))) 0 * v (ix3 0 x l) := by
    intro m z a b
    pointwise [k0_pay30]
  rw [diagA, h]
  refine Finset.sum_congr rfl fun j _ => ?_
  rw [select_eq (pay23_at _ _), pay31_at, pay32_at, pay28_at hu]
  simp only [show ¬ 128 ≤ j.val by omega, false_or, Fin.val_fin_lt]

theorem pay33_at {u : FVec Ideal S256x256 .bf16} (hu : Tri u) (b : BitVec 1) (q : FVec Ideal S256x128 .bf16)
    (k : Vec Ideal S1x128x128 .bf16) (r : Fin 256) (c : Fin 256) :
    k0_pay33 u b q k (ix2 r c)
      = ∑ j : Fin 128, if 128 ≤ c.val ∨ c.val < j.val then (if b = 1 then keep (score q k r j) else 0) else 0 := by
  rw [← tri_sum hu (fun j => if b = 1 then keep (score q k r j) else 0)
    (fun j => by split; exacts [keep_ne_top _, by simp]) c (fun j => by omega) (fun j => by omega)]
  have h : k0_pay33 u b q k (ix2 r c)
      = ∑ x : Fin 128, Scalar.select b (0 - k0_pay32 q k (ix2 r x)) 0 * u (ix2 ⟨x.val, by omega⟩ c)
        + ∑ x : Fin 128, (Scalar.select b (0 - k0_pay32 q k (ix2 r x)) 0
          - Scalar.select b (0 - k0_pay32 q k (ix2 r x)) 0) * u (ix2 ⟨128 + x.val, by omega⟩ c) := by
    pointwise [k0_pay33]
  rw [h]
  simp only [select_eq Iff.rfl, pay32_at, keep]

theorem pay88_eq (u : FVec Ideal S256x256 .bf16) (q : FVec Ideal S256x128 .bf16) (k : Vec Ideal S1x128x128 .bf16)
    (r : Fin 256) (c : Fin 256) : k0_pay88 q u k (ix2 r c) = k0_pay33 u 1 q k (ix2 r c) := by
  have h : k0_pay88 q u k (ix2 r c)
      = ∑ x : Fin 128, (0 - k0_pay32 q k (ix2 r x)) * u (ix2 ⟨x.val, by omega⟩ c)
        + ∑ x : Fin 128, ((0 - k0_pay32 q k (ix2 r x)) - (0 - k0_pay32 q k (ix2 r x))) * u (ix2 ⟨128 + x.val, by omega⟩ c) := by
    have e : k0_pay87 q k = k0_pay32 q k := rfl
    rw [← e]
    pointwise [k0_pay88]
  have h' : k0_pay33 u 1 q k (ix2 r c)
      = ∑ x : Fin 128, Scalar.select 1 (0 - k0_pay32 q k (ix2 r x)) 0 * u (ix2 ⟨x.val, by omega⟩ c)
        + ∑ x : Fin 128, (Scalar.select 1 (0 - k0_pay32 q k (ix2 r x)) 0
          - Scalar.select 1 (0 - k0_pay32 q k (ix2 r x)) 0) * u (ix2 ⟨128 + x.val, by omega⟩ c) := by
    pointwise [k0_pay33]
  rw [h, h']
  rfl

/-- A whole tile's total, and its weighted values with `C` the log of what the keys after it leave. -/
def tot (q : FVec Ideal S256x128 .bf16) (k : Vec Ideal S1x128x128 .bf16) (r : Fin 256) : EReal :=
  ∑ j : Fin 128, keep (score q k r j)

def part (q : FVec Ideal S256x128 .bf16) (k v : Vec Ideal S1x128x128 .bf16) (r : Fin 256) (C : EReal) (l : Fin 128) : EReal :=
  ∑ j : Fin 128, Ideal.exp ((score q k r j - soft (score q k r j))
    + (∑ j' : Fin 128, if j < j' then keep (score q k r j') else 0) + C) * v (ix3 0 j l)

theorem pay35_at {u : FVec Ideal S256x256 .bf16} (hu : Tri u) (b : BitVec 1) (q : FVec Ideal S256x128 .bf16)
    (k : Vec Ideal S1x128x128 .bf16) (c : FVec Ideal S256x128 .f32) (r : Fin 256) (l : Fin 128) :
    k0_pay35 c (k0_pay33 u b q k) (ix3 0 r l) = c (ix2 r l) + if b = 1 then tot q k r else 0 := by
  have h : ∀ S : FVec Ideal S256x256 .f32, k0_pay35 c S (ix3 0 r l) = c (ix2 r l) + S (ix2 r ⟨128 + l.val, by omega⟩) := by
    intro S
    pointwise [k0_pay35, k0_pay34]
  rw [h, pay33_at hu]
  congr 1
  split
  · exact Finset.sum_congr rfl fun j _ => if_pos (.inl (by simp))
  · simp

theorem pay36_at {u : FVec Ideal S256x256 .bf16} (hu : Tri u) (b : BitVec 1) (q : FVec Ideal S256x128 .bf16)
    (k v : Vec Ideal S1x128x128 .bf16) (c a : FVec Ideal S256x128 .f32) (C : EReal) (r : Fin 256)
    (hc : ∀ l, c (ix2 r l) = C) (l : Fin 128) :
    k0_pay36 b c a (k0_pay31 q k) (k0_pay32 q k) (k0_pay33 u b q k) v (ix3 0 r l)
      = a (ix2 r l) + if b = 1 then part q k v r C l else 0 := by
  have h : ∀ z sp : FVec Ideal S256x128 .f32, ∀ S : FVec Ideal S256x256 .f32, k0_pay36 b c a z sp S v (ix3 0 r l)
      = a (ix2 r l) + ∑ x : Fin 128, Scalar.select b
          (Ideal.exp (z (ix2 r x) - sp (ix2 r x) + S (ix2 r ⟨x.val, by omega⟩) + c (ix2 r x))) 0 * v (ix3 0 x l) := by
    intro z sp S
    pointwise [k0_pay36]
  rw [h]
  congr 1
  by_cases hb : b = 1
  · rw [if_pos hb, part]
    refine Finset.sum_congr rfl fun j _ => ?_
    rw [select_eq Iff.rfl, if_pos hb, pay31_at, pay32_at, pay33_at hu, hc]
    simp only [show ¬ 128 ≤ j.val by omega, false_or, Fin.val_fin_lt, if_pos hb]
  · simp only [select_eq Iff.rfl, if_neg hb, zero_mul, Finset.sum_const_zero]

theorem pay7_at {u : FVec Ideal S256x256 .bf16} (hu : Tri u) (q : FVec Ideal S256x128 .bf16)
    (k : Vec Ideal S1x128x128 .bf16) (c : Vec Ideal S1x256x128 .f32) (r : Fin 256) (l : Fin 128) :
    k0_pay7 (k0_pay89 q u k) (k0_pay90 c) (ix3 0 r l) = c (ix3 0 r l) + tot q k r := by
  have h : k0_pay7 (k0_pay89 q u k) (k0_pay90 c) (ix3 0 r l) = c (ix3 0 r l) + k0_pay88 q u k (ix2 r ⟨128 + l.val, by omega⟩) := by
    pointwise [k0_pay7, k0_pay6, k0_pay89, k0_pay90]
  rw [h, pay88_eq, pay33_at hu]
  congr 1
  refine Finset.sum_congr rfl fun j _ => ?_
  rw [if_pos (.inl (by simp)), if_pos rfl]

theorem pay5_at {u : FVec Ideal S256x256 .bf16} (hu : Tri u) (q : FVec Ideal S256x128 .bf16)
    (k v : Vec Ideal S1x128x128 .bf16) (c a : Vec Ideal S1x256x128 .f32) (C : EReal) (r : Fin 256)
    (hc : ∀ l, c (ix3 0 r l) = C) (l : Fin 128) :
    k0_pay5 (k0_pay91 q u k c a v) (ix3 0 r l) = a (ix3 0 r l) + part q k v r C l := by
  have h : k0_pay5 (k0_pay91 q u k c a v) (ix3 0 r l)
      = a (ix3 0 r l) + ∑ x : Fin 128, Ideal.exp (k0_pay86 q k (ix2 r x) - k0_pay87 q k (ix2 r x)
          + k0_pay88 q u k (ix2 r ⟨x.val, by omega⟩) + c (ix3 0 r x)) * v (ix3 0 x l) := by
    pointwise [k0_pay5, k0_pay91, k0_pay90]
  rw [h, part]
  congr 1
  refine Finset.sum_congr rfl fun j _ => ?_
  rw [show k0_pay86 q k = k0_pay31 q k from rfl, show k0_pay87 q k = k0_pay32 q k from rfl, pay31_at, pay32_at, pay88_eq,
    pay33_at hu, hc]
  simp only [show ¬ 128 ≤ j.val by omega, false_or, Fin.val_fin_lt, if_true]

theorem floor_eq : (floor : Ideal .f32) = (⊥ : EReal) := rfl

/-- The flag says whether any of the values the maximum is over lies above the floor. -/
theorem go_of_not {M : Ideal .f32} (h : ¬ Scalar.cmpi .sgt (Scalar.extui (Scalar.cmpf .ogt M floor)) 0#32 = 1#1) :
    M = (⊥ : EReal) := by
  rw [floor_eq] at h
  by_contra hM
  apply h
  have e : Scalar.cmpf .ogt M (⊥ : EReal) = 1#1 := by
    change BitVec.ofBool (decide ((⊥ : EReal) < M)) = 1#1
    rw [decide_eq_true (bot_lt_iff_ne_bot.mpr hM)]; rfl
  rw [show (Scalar.cmpf .ogt M (⊥ : Ideal .f32)) = 1#1 from e]
  decide

theorem fold_max_bot {ι : Type} [Fintype ι] {b : EReal} {f : ι → EReal} (h : Finset.fold max b f Finset.univ = ⊥) (x : ι) :
    f x = ⊥ := by
  have := (Finset.fold_max_le (s := Finset.univ) (f := f) (b := b) ⊥).mp h.le
  exact le_bot_iff.mp (this.2 x (Finset.mem_univ x))

theorem pay37_bot {c : FVec Ideal S256x128 .f32} {S : FVec Ideal S256x256 .f32} (h : k0_pay37 c S = (⊥ : EReal))
    (r : Fin 256) (l : Fin 128) : k0_pay35 c S (ix3 0 r l) = (⊥ : EReal) := by
  have e : k0_pay37 c S = Finset.fold max (Ideal.ofBits .f32 4286578688#32)
      (fun x : Fin 256 × Fin 128 => c (ix2 x.1 x.2) + S (ix2 x.1 ⟨128 + x.2.val, by omega⟩)) Finset.univ := by
    pointwise [k0_pay37, k0_pay34]
  have e' : k0_pay35 c S (ix3 0 r l) = c (ix2 r l) + S (ix2 r ⟨128 + l.val, by omega⟩) := by
    pointwise [k0_pay35, k0_pay34]
  rw [e']
  rw [e] at h
  exact fold_max_bot h (r, l)

theorem pay8_bot {t c : FVec Ideal S256x128 .f32} (h : k0_pay8 t c = (⊥ : EReal))
    (r : Fin 256) (l : Fin 128) : k0_pay7 t c (ix3 0 r l) = (⊥ : EReal) := by
  have e : k0_pay8 t c = Finset.fold max (Ideal.ofBits .f32 4286578688#32)
      (fun x : Fin 256 × Fin 128 => c (ix2 x.1 x.2) + t (ix2 x.1 x.2)) Finset.univ := by
    pointwise [k0_pay8, k0_pay6]
  have e' : k0_pay7 t c (ix3 0 r l) = c (ix2 r l) + t (ix2 r l) := by
    pointwise [k0_pay7, k0_pay6]
  rw [e']
  rw [e] at h
  exact fold_max_bot h (r, l)

theorem pay38_at (m : IVec S128x128 1) (a : Vec Ideal S1x256x128 .f32) (r : Fin 128) (l : Fin 128) :
    k0_pay38 m a (ix3 0 r l) = Scalar.select (m (ix2 r l)) (a (ix3 0 ⟨r.val, by omega⟩ l)) (a (ix3 0 ⟨128 + r.val, by omega⟩ l)) := by
  pointwise [k0_pay38]

theorem pay22_at (r l : Fin 128) : k0_pay22 (ix2 r l) = 1 ↔ l.val < 64 := by
  have h : k0_pay22 (ix2 r l) = IntOp.cmpi .slt (BitVec.ofNat 32 l.val) 64#32 := by
    pointwise [k0_pay22]
  rw [h]
  exact (by decide +kernel : ∀ l : Fin 128, IntOp.cmpi .slt (BitVec.ofNat 32 l.val) 64#32 = 1 ↔ l.val < 64) l

/-- The stacked queries: the pair's first head in the upper rows, its second in the lower, the other's lanes zero. -/
theorem pay24_lo (q : Vec Ideal S1x128x128 .bf16) (r : Fin 128) (l : Fin 128) :
    k0_pay24 q (ix2 ⟨r.val, by omega⟩ l) = if l.val < 64 then q (ix3 0 r l) else (0 : EReal) := by
  have e : k0_pay24 q (ix2 ⟨r.val, by omega⟩ l)
      = Scalar.select (k0_pay22 (ix2 r l)) (q (ix3 0 r l)) (0 : EReal) := by
    pointwise [k0_pay24, k0_pay22]
  rw [e, select_eq (pay22_at r l)]

theorem pay24_hi (q : Vec Ideal S1x128x128 .bf16) (r : Fin 128) (l : Fin 128) :
    k0_pay24 q (ix2 ⟨128 + r.val, by omega⟩ l) = if l.val < 64 then (0 : EReal) else q (ix3 0 r l) := by
  have e : k0_pay24 q (ix2 ⟨128 + r.val, by omega⟩ l)
      = Scalar.select (k0_pay22 (ix2 r l)) (0 : EReal) (q (ix3 0 r l)) := by
    pointwise [k0_pay24, k0_pay22]
  rw [e, select_eq (pay22_at r l)]

end Cert.Proof.KI

end
-- ==== Proof.KI.Tri.lean ====
/-
  The matrix of ones the kernel is handed: `V m c main_v11`, computed by the host operations before the region, is the strict
  lower triangle of 128 x 128 twice over (rows 0..127 and 128..255) beside 128 columns of ones.
-/
module

public import proofs.«01_k».proof.Proof.KI.Frame
public import proofs.«01_k».proof.Proof.KI.Read
public import Idealize.ShloMosaic.Lib.StableHlo.ReadAt

@[expose] public section

set_option maxRecDepth 16384

noncomputable section

namespace Cert.Proof.KI

open Cert.KernelIdeal Cert.KernelIdeal.Gen
open Idealize.ShloMosaic

/-- The row number modulo 128, as the host computes it (the remainder, moved up by 128 where its sign is not the divisor's). -/
def rowMod (a : BitVec 32) : BitVec 32 :=
  let d : BitVec 32 := Scalar.select (IntOp.cmpi CmpIPredicate.eq 128#32 0#32) (1#32) 128#32
  let r := IntOp.remsi ArithUnit.host a d
  Scalar.select (IntOp.andi (IntOp.cmpi CmpIPredicate.ne (IntOp.cmpi CmpIPredicate.slt r 0#32) (IntOp.cmpi CmpIPredicate.slt d 0#32))
      (IntOp.cmpi CmpIPredicate.ne r 0#32))
    (IntOp.addi r d) r

theorem rowMod_eq : ∀ a : Fin 256, rowMod (BitVec.ofNat 32 a.val) = BitVec.ofNat 32 (a.val % 128) := by decide +kernel

theorem mask_eq : ∀ (r : Fin 128) (b : Fin 256),
    Scalar.select (IntOp.cmpi CmpIPredicate.slt (BitVec.ofNat 32 b.val) 128#32)
      (IntOp.cmpi CmpIPredicate.sgt (BitVec.ofNat 32 r.val) (BitVec.ofNat 32 b.val)) 1#1
      = if 128 ≤ b.val ∨ b.val < r.val then 1#1 else 0#1 := by decide +kernel

variable (m : (ℓ : Loc nD τ sig) → Buf (Elt Ideal) ℓ)

theorem tri_at (c : Dev nD) (a b : Fin 256) :
    (V m c main_v11 : Vec Ideal S256x256 .bf16) (ix2 a b) = (if 128 ≤ b.val ∨ b.val < a.val % 128 then 1 else 0 : EReal) := by
  unfold V
  simp only [hostLines, hostOps0, hostOps0_1, hostOps0_2, hostOps0_3, hostOps0_4, List.flatten_cons, List.flatten_nil, List.append_nil,
    List.cons_append, List.nil_append]
  after_reads_at
  have e := mask_eq ⟨a.val % 128, Nat.mod_lt _ (by decide)⟩ b
  rw [← rowMod_eq a] at e
  refine (congrArg (FloatOps.uitofp (F := Ideal) FTy.bf16) (show _ = _ from e)).trans ?_
  split_ifs
  · show ((1#1 : BitVec 1).toNat : EReal) = 1
    simp
  · show ((0#1 : BitVec 1).toNat : EReal) = 0
    simp

end Cert.Proof.KI

end
-- ==== Proof.KI.Walk.lean ====
/-
  One pair of heads of the attention kernel at an index: the walk over the key tiles, whether or not it stops early, adds
  the weighted values of every key before the query.
-/
module

public import proofs.«01_k».proof.Proof.KI.Read

@[expose] public section

set_option maxRecDepth 16384

noncomputable section

namespace Cert.Proof.KI

open Cert.KernelIdeal Cert.KernelIdeal.Gen Cert.Stick
open Idealize.ShloMosaic

theorem part_eq {q : FVec Ideal S256x128 .bf16} {k v : Vec Ideal S1x128x128 .bf16} {r : Fin 256} {l : Fin 128}
    {Z V : ℕ → EReal} {n : ℕ} (hZ : ∀ j : Fin 128, score q k r j = Z (128 * n + j)) (hV : ∀ j : Fin 128, v (ix3 0 j l) = V (128 * n + j))
    (C : EReal) : part q k v r C l + Stick.below Z V n (C + tot q k r) = Stick.below Z V (n + 1) C := by
  rw [below_succ, part, tot]
  simp only [hZ, hV]

/-- The walk over the tiles `n - 1, …, 0`: where the flag is down nothing is left for any key of the row, so stopping
    leaves out only zeros. -/
theorem walk_at {u : FVec Ideal S256x256 .bf16} (hu : Tri u) (q : FVec Ideal S256x128 .bf16) (kt vt : ℕ → Vec Ideal S1x128x128 .bf16)
    (r : Fin 256) (l : Fin 128) (Z V : ℕ → EReal) (n : ℕ)
    (hZ : ∀ t < n, ∀ j : Fin 128, score q (kt t) r j = Z (128 * t + j))
    (hV : ∀ t < n, ∀ j : Fin 128, vt t (ix3 0 j l) = V (128 * t + j))
    (go : BitVec 32) (c a : Vec Ideal S1x256x128 .f32) (C : EReal) (hc : ∀ l, c (ix3 0 r l) = C)
    (hgo : ¬ Scalar.cmpi .sgt go 0#32 = 1#1 → C = ⊥) :
    walk q u kt vt n go c a (ix3 0 r l) = a (ix3 0 r l) + Stick.below Z V n C := by
  induction n generalizing go c a C with
  | zero => rw [below_zero, add_zero]; rfl
  | succ n ih =>
    rw [walk]
    split
    · rw [ih (fun t ht => hZ t (by omega)) (fun t ht => hV t (by omega)) _ _ _ (C + tot q (kt n) r)
        (fun l => by rw [pay7_at hu, hc]) (fun h => by
          rw [← hc l, ← pay7_at hu]
          exact pay8_bot (go_of_not h) r l),
        pay5_at hu q _ _ c a C r hc, add_assoc, part_eq (hZ n (by omega)) (hV n (by omega))]
    · rename_i h
      rw [hgo h, below_bot, add_zero]

/-- The accumulator of row `r` at the end: the whole row's sum. -/
theorem acc_at {u : FVec Ideal S256x256 .bf16} (hu : Tri u) (i : grid0.Coords) (q : FVec Ideal S256x128 .bf16)
    (k v k' v' : Vec Ideal S1x128x128 .bf16) (kt vt : ℕ → Vec Ideal S1x128x128 .bf16)
    (r : Fin 256) (l : Fin 128) (Z V : ℕ → EReal)
    (hk : ∀ j : Fin 128, score q k r j = Z (128 * (i 1).val + j)) (hv : ∀ j : Fin 128, v (ix3 0 j l) = V (128 * (i 1).val + j))
    (hk' : ∀ j : Fin 128, score q k' r j = Z (128 * ((i 1).val - 1) + j))
    (hv' : ∀ j : Fin 128, v' (ix3 0 j l) = V (128 * ((i 1).val - 1) + j))
    (hkt : ∀ t < 62, ∀ j : Fin 128, score q (kt t) r j = Z (128 * t + j))
    (hvt : ∀ t < 62, ∀ j : Fin 128, vt t (ix3 0 j l) = V (128 * t + j)) :
    walk q u kt vt (below i) (startGo i u q k k') (startC i u q k k') (startA i u q k v k' v') (ix3 0 r l)
      = row Z V (128 * (i 1).val + r.val % 128) 8192 := by
  have hi : (i 1).val < 64 := (i 1).isLt
  have hb : below i ≤ 62 := by unfold below; omega
  rw [walk_at hu q kt vt r l Z V (below i) (fun t ht => hkt t (by omega)) (fun t ht => hvt t (by omega)) _ _ _
    (diagTot q k r + if hasPrev i = 1 then tot q k' r else 0)
    (fun l => by rw [startC, pay35_at hu, diagC_at hu])
    (fun h => by
      have := pay37_bot (go_of_not h) r l
      rwa [pay35_at hu, diagC_at hu] at this),
    startA, pay36_at hu _ q k' v' _ _ (diagTot q k r) r (diagC_at hu q k r), diagA_at hu, row_eq Z V _ _ (by omega) hi]
  have hp : hasPrev i = 1 ↔ 1 ≤ (i 1).val :=
    (by decide +kernel : ∀ n : Fin 64, Scalar.cmpi .sge (BitVec.ofNat 32 n.val) 1#32 = 1 ↔ 1 ≤ n.val) ⟨(i 1).val, hi⟩
  rw [add_assoc]
  congr 1
  · simp only [hk, hv]
  · have e : diagTot q k r = ∑ j' : Fin 128, if j'.val < r.val % 128 then keep (Z (128 * (i 1).val + j')) else 0 := by
      simp only [diagTot, hk]
    rw [← e]
    by_cases h : 1 ≤ (i 1).val
    · rw [if_pos (hp.mpr h), if_pos (hp.mpr h)]
      obtain ⟨n, hn⟩ : ∃ n, (i 1).val = n + 1 := ⟨(i 1).val - 1, by omega⟩
      have hbn : below i = n := by unfold below; omega
      rw [hn, Nat.add_sub_cancel] at hk' hv'
      rw [hbn, hn, part_eq hk' hv']
    · have h0 : (i 1).val = 0 := by omega
      have hb0 : below i = 0 := by unfold below; omega
      rw [if_neg (fun h' => h (hp.mp h')), hb0, h0, below_zero, below_zero, add_zero]

/-- A dot over the 128 lanes with the other head's half zero is the head's own dot. -/
theorem dot_lo (f g : Fin 128 → EReal) :
    ∑ x : Fin 128, (if x.val < 64 then f x else 0) * g x = ∑ d : Fin 64, f ⟨d.val, by omega⟩ * g ⟨d.val, by omega⟩ := by
  rw [Fin.sum_univ_add (a := 64) (b := 64) (fun x : Fin (64 + 64) => (if x.val < 64 then f x else 0) * g x),
    Finset.sum_eq_zero (f := fun d : Fin 64 => _ * g (Fin.natAdd 64 d)), add_zero]
  · exact Finset.sum_congr rfl fun d _ => by rw [if_pos (by simp)]; rfl
  · intro d _; rw [if_neg (by simp), zero_mul]

theorem dot_hi (f g : Fin 128 → EReal) :
    ∑ x : Fin 128, (if x.val < 64 then 0 else f x) * g x = ∑ d : Fin 64, f ⟨64 + d.val, by omega⟩ * g ⟨64 + d.val, by omega⟩ := by
  rw [Fin.sum_univ_add (a := 64) (b := 64) (fun x : Fin (64 + 64) => (if x.val < 64 then 0 else f x) * g x),
    Finset.sum_eq_zero (f := fun d : Fin 64 => _ * g (Fin.castAdd 64 d)), zero_add]
  · exact Finset.sum_congr rfl fun d _ => by rw [if_neg (by simp)]; rfl
  · intro d _; rw [if_pos (by simp), zero_mul]

/-- The lane of head dimension `d` in the half that holds lane `l`. -/
abbrev lane (l : Fin 128) (d : Fin 64) : Fin 128 := ⟨64 * (l.val / 64) + d.val, by omega⟩

/-- One pair of heads' block at query row `ρ` and lane `l`, with the keys and values at position `p` given by `Kf p`, `Vf p`. -/
theorem outBlock_at {ub : Vec Ideal S256x256 .bf16} (hu : Tri (k0_pay21 ub)) (i : grid0.Coords) (qb k v k' v' : Vec Ideal S1x128x128 .bf16)
    (kt vt : ℕ → Vec Ideal S1x128x128 .bf16) (Kf Vf : ℕ → Fin 128 → EReal)
    (hk : ∀ j l : Fin 128, k (ix3 0 j l) = Kf (128 * (i 1).val + j) l)
    (hv : ∀ j l : Fin 128, v (ix3 0 j l) = Vf (128 * (i 1).val + j) l)
    (hk' : ∀ j l : Fin 128, k' (ix3 0 j l) = Kf (128 * ((i 1).val - 1) + j) l)
    (hv' : ∀ j l : Fin 128, v' (ix3 0 j l) = Vf (128 * ((i 1).val - 1) + j) l)
    (hkt : ∀ t < 62, ∀ j l : Fin 128, kt t (ix3 0 j l) = Kf (128 * t + j) l)
    (hvt : ∀ t < 62, ∀ j l : Fin 128, vt t (ix3 0 j l) = Vf (128 * t + j) l) (ρ l : Fin 128) :
    outBlock i qb ub k v k' v' kt vt (ix3 0 ρ l)
      = row (fun p => ∑ d : Fin 64, (qb (ix3 0 ρ (lane l d)) : EReal) * Kf p (lane l d)) (fun p => Vf p l) (128 * (i 1).val + ρ.val) 8192 := by
  have hs : ∀ (r : Fin 256) (kk : Vec Ideal S1x128x128 .bf16) (n : ℕ), (∀ j l : Fin 128, kk (ix3 0 j l) = Kf (128 * n + j) l) →
      ∀ j : Fin 128, score (k0_pay24 qb) kk r j
        = (fun p => ∑ x : Fin 128, (k0_pay24 qb (ix2 r x) : EReal) * Kf p x) (128 * n + j) := fun r kk n h j => by
    simp only [score, h]
  have ha : ∀ r : Fin 256, walk (k0_pay24 qb) (k0_pay21 ub) kt vt (below i) (startGo i (k0_pay21 ub) (k0_pay24 qb) k k')
      (startC i (k0_pay21 ub) (k0_pay24 qb) k k') (startA i (k0_pay21 ub) (k0_pay24 qb) k v k' v') (ix3 0 r l)
      = row (fun p => ∑ x : Fin 128, (k0_pay24 qb (ix2 r x) : EReal) * Kf p x) (fun p => Vf p l) (128 * (i 1).val + r.val % 128) 8192 :=
    fun r => acc_at hu i _ k v k' v' kt vt r l _ _ (hs r k _ hk) (fun j => hv j l) (hs r k' _ hk') (fun j => hv' j l)
      (fun t ht => hs r (kt t) t (hkt t ht)) (fun t ht j => hvt t ht j l)
  rw [outBlock, pay38_at, select_eq (pay22_at ρ l)]
  split
  · rename_i h
    rw [ha]
    simp only [pay24_lo, dot_lo, Nat.mod_eq_of_lt ρ.isLt]
    have e : l.val / 64 = 0 := by omega
    simp only [lane, e, mul_zero, zero_add]
  · rename_i h
    rw [ha]
    simp only [pay24_hi, dot_hi, Nat.add_mod_left, Nat.mod_eq_of_lt ρ.isLt]
    have e : l.val / 64 = 1 := by omega
    simp only [lane, e, mul_one]

end Cert.Proof.KI

end
-- ==== Proof.Attn.lean ====
/-
  Both programs' result in closed form: one element of the attention, as a function of the packed queries, keys and values.
-/
module

public import proofs.«01_k».proof.Proof.Stick
public import Idealize.ShloMosaic.Lib.ValueIdx

@[expose] public section

noncomputable section

namespace Cert.Stick

open Idealize.ShloMosaic
open scoped BigOperators

/-- The packed array at a position and a column given as numbers, zero outside. -/
def arr (x : (⟨3, ![2, 8192, 1536]⟩ : Shape).Idx → EReal) (b : Fin 2) (p c : ℕ) : EReal :=
  if h : p < 8192 ∧ c < 1536 then x (ValueIdx.ix3 b ⟨p, h.1⟩ ⟨c, h.2⟩) else 0

theorem arr_of_idx (x : (⟨3, ![2, 8192, 1536]⟩ : Shape).Idx → EReal) (i : (⟨3, ![2, 8192, 1536]⟩ : Shape).Idx) (b : Fin 2) (p c : ℕ)
    (h0 : (i 0).val = b.val) (h1 : (i 1).val = p) (h2 : (i 2).val = c) : x i = arr x b p c := by
  have l1 : (i 1).val < 8192 := (i 1).isLt
  have l2 : (i 2).val < 1536 := (i 2).isLt
  unfold arr
  rw [dif_pos ⟨h1 ▸ l1, h2 ▸ l2⟩]
  refine congrArg x (funext fun a => Fin.ext ?_)
  match a with
  | ⟨0, _⟩ => exact h0
  | ⟨1, _⟩ => exact h1
  | ⟨2, _⟩ => exact h2

/-- The attention at batch `b`, position `s`, column `w` (head `w / 64`): columns 0..511 are the queries, 512..1023 the keys,
    1024..1535 the values. -/
def attn (x : (⟨3, ![2, 8192, 1536]⟩ : Shape).Idx → EReal) (b : Fin 2) (s w : ℕ) : EReal :=
  row (fun p => ∑ d : Fin 64, arr x b s (64 * (w / 64) + d.val) * arr x b p (512 + (64 * (w / 64) + d.val)))
    (fun p => arr x b p (1024 + w)) s 8192

end Cert.Stick

end
-- ==== Proof.KI.Blocks.lean ====
/-
  The blocks the body is handed, in coordinates, and the block it leaves at an index: `attn`.
-/
module

public import proofs.«01_k».proof.Proof.KI.Tri
public import proofs.«01_k».proof.Proof.KI.Walk
public import proofs.«01_k».proof.Proof.Attn
public import Idealize.ShloMosaic.Lib.Pipeline.ValueKit
public import Idealize.ShloMosaic.Lib.WritesUnit

@[expose] public section

set_option maxRecDepth 16384

noncomputable section

namespace Cert.Proof.KI

open Cert.KernelIdeal Cert.KernelIdeal.Gen Cert.Stick
open Idealize.ShloMosaic Idealize.ShloMosaic.Pipeline

/-! ### Where the blocks lie -/

theorem idx0 : ∀ t : Fin (cfg0 (F := Ideal)).N, win0_0.index t = ![(grid0.coords t 0).val, (grid0.coords t 1).val, 0] :=
  (by decide +kernel : ∀ t : Fin grid0.N, _)
theorem idx1 : ∀ t : Fin (cfg0 (F := Ideal)).N, win0_1.index t = ![(grid0.coords t 0).val, 0, 1] :=
  (by decide +kernel : ∀ t : Fin grid0.N, _)
theorem idx2 : ∀ t : Fin (cfg0 (F := Ideal)).N, win0_2.index t = ![(grid0.coords t 0).val, 0, 2] :=
  (by decide +kernel : ∀ t : Fin grid0.N, _)
theorem idx3 : ∀ t : Fin (cfg0 (F := Ideal)).N, win0_3.index t = ![0, 0] :=
  (by decide +kernel : ∀ t : Fin grid0.N, _)
theorem idx4 : ∀ t : Fin (cfg0 (F := Ideal)).N, win0_4.index t = ![(grid0.coords t 0).val, (grid0.coords t 1).val, 0] :=
  (by decide +kernel : ∀ t : Fin grid0.N, _)

theorem off2_eq : ∀ i : grid0.Coords, k0_off2 i = ![0, 128 * ((i 1).val - 1), 0] := by decide +kernel
theorem off5_eq : ∀ i : grid0.Coords, k0_off5 i = ![0, 128 * ((i 1).val - 1), 128] := by decide +kernel
theorem off8_eq : ∀ i : grid0.Coords, k0_off8 i = ![0, 128 * ((i 1).val - 1), 256] := by decide +kernel
theorem off11_eq : ∀ i : grid0.Coords, k0_off11 i = ![0, 128 * ((i 1).val - 1), 384] := by decide +kernel
theorem off3_eq : ∀ n : Fin 62, k0_off3 (BitVec.ofNat 32 n.val) = ![0, 128 * n.val, 0] := by decide +kernel
theorem off6_eq : ∀ n : Fin 62, k0_off6 (BitVec.ofNat 32 n.val) = ![0, 128 * n.val, 128] := by decide +kernel
theorem off9_eq : ∀ n : Fin 62, k0_off9 (BitVec.ofNat 32 n.val) = ![0, 128 * n.val, 256] := by decide +kernel
theorem off12_eq : ∀ n : Fin 62, k0_off12 (BitVec.ofNat 32 n.val) = ![0, 128 * n.val, 384] := by decide +kernel

/-! ### Reads through rectangles -/

/-- A block given by a function of its position and column. -/
def Given {n w : ℕ} (x : (⟨3, ![1, n, w]⟩ : Shape).Idx → EReal) (f : ℕ → ℕ → EReal) : Prop :=
  ∀ (p : Fin n) (c : Fin w), x (ix3 0 p c) = f p.val c.val

theorem ld_given {n w n' w' : ℕ} {x : Vec Ideal (⟨3, ![1, n, w]⟩ : Shape) .bf16} {f : ℕ → ℕ → EReal} (hx : Given x f) (off : Fin 3 → ℕ) (a b : ℕ)
    (hoff : off = ![0, a, b]) (inb : ∀ d, off d + (![1, n', w'] : Fin 3 → ℕ) d ≤ (⟨3, ![1, n, w]⟩ : Shape).size d) (p : Fin n') (c : Fin w') :
    x ((Rect.unit (s := (⟨3, ![1, n, w]⟩ : Shape)) off (![1, n', w'] : Fin 3 → ℕ) inb).toLoadRect.idx (ix3 0 p c)) = f (a + p.val) (b + c.val) := by
  subst hoff
  have h1 : a + n' ≤ n := inb 1
  have h2 : b + w' ≤ w := inb 2
  refine Eq.trans (congrArg x (funext fun d => Fin.ext ?_)) (hx ⟨a + p.val, by omega⟩ ⟨b + c.val, by omega⟩)
  match d with
  | ⟨0, _⟩ => rfl
  | ⟨1, _⟩ => show a + 1 * p.val = a + p.val; omega
  | ⟨2, _⟩ => show b + 1 * c.val = b + c.val; omega

/-! ### One pair's piece -/

/-- What a pair of heads writes, whose query quarter begins at column `o` and whose tiles at that column of the keys and of the
    values, is `attn`. -/
theorem pair_at (x : (⟨3, ![2, 8192, 1536]⟩ : Shape).Idx → EReal) (b : Fin 2) (o : ℕ) (ho : 128 ∣ o)
    {ub : Vec Ideal S256x256 .bf16} (hu : Tri (k0_pay21 ub)) (i : grid0.Coords)
    (qb k v k' v' : Vec Ideal S1x128x128 .bf16) (kt vt : ℕ → Vec Ideal S1x128x128 .bf16)
    (hq : ∀ j l, qb (ix3 0 j l) = arr x b (128 * (i 1).val + j.val) (o + l.val))
    (hk : ∀ j l, k (ix3 0 j l) = arr x b (128 * (i 1).val + j.val) (512 + (o + l.val)))
    (hv : ∀ j l, v (ix3 0 j l) = arr x b (128 * (i 1).val + j.val) (1024 + (o + l.val)))
    (hk' : ∀ j l, k' (ix3 0 j l) = arr x b (128 * ((i 1).val - 1) + j.val) (512 + (o + l.val)))
    (hv' : ∀ j l, v' (ix3 0 j l) = arr x b (128 * ((i 1).val - 1) + j.val) (1024 + (o + l.val)))
    (hkt : ∀ t < 62, ∀ j l, kt t (ix3 0 j l) = arr x b (128 * t + j.val) (512 + (o + l.val)))
    (hvt : ∀ t < 62, ∀ j l, vt t (ix3 0 j l) = arr x b (128 * t + j.val) (1024 + (o + l.val))) (r l : Fin 128) :
    outBlock i qb ub k v k' v' kt vt (ix3 0 r l) = attn x b (128 * (i 1).val + r.val) (o + l.val) := by
  rw [outBlock_at hu i qb k v k' v' kt vt (fun p l => arr x b p (512 + (o + l.val))) (fun p l => arr x b p (1024 + (o + l.val)))
    hk hv hk' hv' hkt hvt r l]
  unfold attn
  congr 1
  funext p
  refine Finset.sum_congr rfl fun d _ => ?_
  rw [hq]
  have e : o + (lane l d).val = 64 * ((o + l.val) / 64) + d.val := by
    obtain ⟨g, rfl⟩ := ho
    show 128 * g + (64 * (l.val / 64) + d.val) = _
    omega
  rw [e]

/-! ### The blocks at a point -/

variable (m : (ℓ : Loc nD τ sig) → Buf (Elt Ideal) ℓ)

/-- The argument as launched. -/
abbrev arg (c : Dev nD) : (⟨3, ![2, 8192, 1536]⟩ : Shape).Idx → EReal := m (c.tc.loc main_arg0)

/-- The batch a point works on. -/
abbrev bat (t : Fin (cfg0 (F := Ideal)).N) : Fin 2 := grid0.coords t 0

theorem iblk0_given (c : Dev nD) (t : Fin (cfg0 (F := Ideal)).N) :
    Given (iblk m c 0 t : Vec Ideal S1x128x512 .bf16) fun p l => arr (arg m c) (bat t) (128 * (grid0.coords t 1).val + p) l := by
  intro p l
  have e : (iblk m c 0 t : Vec Ideal S1x128x512 .bf16) (ix3 0 p l) = V m c main_arg0 ((win0_0.blk t).view.emb (ix3 0 p l)) := by
    blk_simp [iblk, idx0]
  rw [e, V_arg]
  refine arr_of_idx _ _ _ _ _ ?_ ?_ ?_ <;> blk_simp [idx0]
  · rfl
  · omega

theorem iblk1_given (c : Dev nD) (t : Fin (cfg0 (F := Ideal)).N) :
    Given (iblk m c 1 t : Vec Ideal S1x8192x512 .bf16) fun p l => arr (arg m c) (bat t) p (512 + l) := by
  intro p l
  have e : (iblk m c 1 t : Vec Ideal S1x8192x512 .bf16) (ix3 0 p l) = V m c main_arg0 ((win0_1.blk t).view.emb (ix3 0 p l)) := by
    blk_simp [iblk, idx1]
  rw [e, V_arg]
  refine arr_of_idx _ _ _ _ _ ?_ ?_ ?_ <;> blk_simp [idx1]
  rfl

theorem iblk2_given (c : Dev nD) (t : Fin (cfg0 (F := Ideal)).N) :
    Given (iblk m c 2 t : Vec Ideal S1x8192x512 .bf16) fun p l => arr (arg m c) (bat t) p (1024 + l) := by
  intro p l
  have e : (iblk m c 2 t : Vec Ideal S1x8192x512 .bf16) (ix3 0 p l) = V m c main_arg0 ((win0_2.blk t).view.emb (ix3 0 p l)) := by
    blk_simp [iblk, idx2]
  rw [e, V_arg]
  refine arr_of_idx _ _ _ _ _ ?_ ?_ ?_ <;> blk_simp [idx2]
  rfl

theorem iblk3_tri (c : Dev nD) (t : Fin (cfg0 (F := Ideal)).N) : Tri (k0_pay21 (ld (iblk m c 3 t : Vec Ideal S256x256 .bf16) whole3)) := by
  intro a b
  rw [← tri_at m c a b]
  have e : ∀ y, (iblk m c 3 t : Vec Ideal S256x256 .bf16) y = V m c main_v11 ((win0_3.blk t).view.emb y) := by
    intro y; blk_simp [iblk, idx3]
  have e2 : ∀ w : Vec Ideal S256x256 .bf16, k0_pay21 w (ix2 a b) = w (ix2 a b) := by
    intro w; pointwise [k0_pay21]
  rw [e2]
  show (iblk m c 3 t : Vec Ideal S256x256 .bf16) (whole3.toLoadRect.idx (ix2 a b)) = _
  rw [e]
  refine congrArg (V m c main_v11) (funext fun d => Fin.ext ?_)
  match d with
  | ⟨0, _⟩ => blk_simp [idx3]; exact (Rect.idx_unit_val ..).trans (Nat.zero_add _)
  | ⟨1, _⟩ => blk_simp [idx3]; exact (Rect.idx_unit_val ..).trans (Nat.zero_add _)

/-- A tile a loop reads. -/
theorem tile_given {x : Vec Ideal S1x8192x512 .bf16} {f : ℕ → ℕ → EReal} (hx : Given x f) (chk : BitVec 32 → Prop) [∀ j, Decidable (chk j)]
    (off : BitVec 32 → Fin 3 → ℕ) (inb : ∀ j, chk j → ∀ a, off j a + S1x128x128.size a ≤ S1x8192x512.size a) (o : ℕ)
    (hchk : ∀ n < 62, chk (BitVec.ofNat 32 n)) (hoff : ∀ n : Fin 62, off (BitVec.ofNat 32 n.val) = ![0, 128 * n.val, o]) :
    ∀ n < 62, ∀ j l, tile x chk off inb n (ix3 0 j l) = f (128 * n + j.val) (o + l.val) := by
  intro n hn j l
  unfold tile
  rw [dif_pos (hchk n hn)]
  exact ld_given hx _ _ _ (hoff ⟨n, hn⟩) _ j l

theorem out1_at (c : Dev nD) (t : Fin (cfg0 (F := Ideal)).N) (r l : Fin 128) :
    out1 (grid0.coords t) (iblk m c 0 t) (iblk m c 1 t) (iblk m c 2 t) (iblk m c 3 t) (ix3 0 r l)
      = attn (arg m c) (bat t) (128 * (grid0.coords t 1).val + r.val) (0 + l.val) := by
  refine pair_at (arg m c) (bat t) 0 ⟨0, rfl⟩ (iblk3_tri m c t) _ _ _ _ _ _ _ _ ?_ ?_ ?_ ?_ ?_ ?_ ?_ r l
  · intro j l; exact (ld_given (iblk0_given m c t) _ 0 0 rfl _ j l).trans (by rw [Nat.zero_add])
  · exact ld_given (iblk1_given m c t) _ _ _ (k0_off1_eq _) _
  · exact ld_given (iblk2_given m c t) _ _ _ (k0_off1_eq _) _
  · exact ld_given (iblk1_given m c t) _ _ _ (off2_eq _) _
  · exact ld_given (iblk2_given m c t) _ _ _ (off2_eq _) _
  · exact tile_given (iblk1_given m c t) _ _ _ _ chk1 off3_eq
  · exact tile_given (iblk2_given m c t) _ _ _ _ chk1 off3_eq

theorem out2_at (c : Dev nD) (t : Fin (cfg0 (F := Ideal)).N) (r l : Fin 128) :
    out2 (grid0.coords t) (iblk m c 0 t) (iblk m c 1 t) (iblk m c 2 t) (iblk m c 3 t) (ix3 0 r l)
      = attn (arg m c) (bat t) (128 * (grid0.coords t 1).val + r.val) (128 + l.val) := by
  refine pair_at (arg m c) (bat t) 128 ⟨1, rfl⟩ (iblk3_tri m c t) _ _ _ _ _ _ _ _ ?_ ?_ ?_ ?_ ?_ ?_ ?_ r l
  · intro j l; exact (ld_given (iblk0_given m c t) _ 0 128 rfl _ j l).trans (by rw [Nat.zero_add])
  · exact ld_given (iblk1_given m c t) _ _ _ (k0_off4_eq _) _
  · exact ld_given (iblk2_given m c t) _ _ _ (k0_off4_eq _) _
  · exact ld_given (iblk1_given m c t) _ _ _ (off5_eq _) _
  · exact ld_given (iblk2_given m c t) _ _ _ (off5_eq _) _
  · exact tile_given (iblk1_given m c t) _ _ _ _ chk2 off6_eq
  · exact tile_given (iblk2_given m c t) _ _ _ _ chk2 off6_eq

theorem out3_at (c : Dev nD) (t : Fin (cfg0 (F := Ideal)).N) (r l : Fin 128) :
    out3 (grid0.coords t) (iblk m c 0 t) (iblk m c 1 t) (iblk m c 2 t) (iblk m c 3 t) (ix3 0 r l)
      = attn (arg m c) (bat t) (128 * (grid0.coords t 1).val + r.val) (256 + l.val) := by
  refine pair_at (arg m c) (bat t) 256 ⟨2, rfl⟩ (iblk3_tri m c t) _ _ _ _ _ _ _ _ ?_ ?_ ?_ ?_ ?_ ?_ ?_ r l
  · intro j l; exact (ld_given (iblk0_given m c t) _ 0 256 rfl _ j l).trans (by rw [Nat.zero_add])
  · exact ld_given (iblk1_given m c t) _ _ _ (k0_off7_eq _) _
  · exact ld_given (iblk2_given m c t) _ _ _ (k0_off7_eq _) _
  · exact ld_given (iblk1_given m c t) _ _ _ (off8_eq _) _
  · exact ld_given (iblk2_given m c t) _ _ _ (off8_eq _) _
  · exact tile_given (iblk1_given m c t) _ _ _ _ chk3 off9_eq
  · exact tile_given (iblk2_given m c t) _ _ _ _ chk3 off9_eq

theorem out4_at (c : Dev nD) (t : Fin (cfg0 (F := Ideal)).N) (r l : Fin 128) :
    out4 (grid0.coords t) (iblk m c 0 t) (iblk m c 1 t) (iblk m c 2 t) (iblk m c 3 t) (ix3 0 r l)
      = attn (arg m c) (bat t) (128 * (grid0.coords t 1).val + r.val) (384 + l.val) := by
  refine pair_at (arg m c) (bat t) 384 ⟨3, rfl⟩ (iblk3_tri m c t) _ _ _ _ _ _ _ _ ?_ ?_ ?_ ?_ ?_ ?_ ?_ r l
  · intro j l; exact (ld_given (iblk0_given m c t) _ 0 384 rfl _ j l).trans (by rw [Nat.zero_add])
  · exact ld_given (iblk1_given m c t) _ _ _ (k0_off10_eq _) _
  · exact ld_given (iblk2_given m c t) _ _ _ (k0_off10_eq _) _
  · exact ld_given (iblk1_given m c t) _ _ _ (off11_eq _) _
  · exact ld_given (iblk2_given m c t) _ _ _ (off11_eq _) _
  · exact tile_given (iblk1_given m c t) _ _ _ _ chk4 off12_eq
  · exact tile_given (iblk2_given m c t) _ _ _ _ chk4 off12_eq

/-- The block a point leaves, at an index. -/
theorem outAt_at (c : Dev nD) (t : Fin (cfg0 (F := Ideal)).N) (y : S1x128x512.Idx) :
    outAt m c t y = attn (arg m c) (bat t) (128 * (grid0.coords t 1).val + (y 1).val) (y 2).val := by
  have y0 : (y 0).val < 1 := (y 0).isLt
  have y1 : (y 1).val < 128 := (y 1).isLt
  have y2 : (y 2).val < 512 := (y 2).isLt
  unfold outAt pieces
  by_cases h4 : 384 ≤ (y 2).val
  · refine (View.read_writes_cons_unit_of_mem _ _ _ _ _ y (ix3 (0 : Fin 1) ⟨(y 1).val, y1⟩ (⟨(y 2).val - 384, by omega⟩ : Fin 128)) rfl fun a => ?_).trans
      ((out4_at m c t _ _).trans ?_)
    · match a with
      | ⟨0, _⟩ => show (y 0).val = 0 + 0; omega
      | ⟨1, _⟩ => show (y 1).val = 0 + (y 1).val; omega
      | ⟨2, _⟩ => show (y 2).val = 384 + ((y 2).val - 384); omega
    · show attn _ _ _ (384 + ((y 2).val - 384)) = _
      congr 1; omega
  refine (View.read_writes_cons_unit_of_not_mem _ _ _ _ _ y rfl 2 (Or.inl (by show (y 2).val < 384; omega))).trans ?_
  by_cases h3 : 256 ≤ (y 2).val
  · refine (View.read_writes_cons_unit_of_mem _ _ _ _ _ y (ix3 (0 : Fin 1) ⟨(y 1).val, y1⟩ (⟨(y 2).val - 256, by omega⟩ : Fin 128)) rfl fun a => ?_).trans
      ((out3_at m c t _ _).trans ?_)
    · match a with
      | ⟨0, _⟩ => show (y 0).val = 0 + 0; omega
      | ⟨1, _⟩ => show (y 1).val = 0 + (y 1).val; omega
      | ⟨2, _⟩ => show (y 2).val = 256 + ((y 2).val - 256); omega
    · show attn _ _ _ (256 + ((y 2).val - 256)) = _
      congr 1; omega
  refine (View.read_writes_cons_unit_of_not_mem _ _ _ _ _ y rfl 2 (Or.inl (by show (y 2).val < 256; omega))).trans ?_
  by_cases h2 : 128 ≤ (y 2).val
  · refine (View.read_writes_cons_unit_of_mem _ _ _ _ _ y (ix3 (0 : Fin 1) ⟨(y 1).val, y1⟩ (⟨(y 2).val - 128, by omega⟩ : Fin 128)) rfl fun a => ?_).trans
      ((out2_at m c t _ _).trans ?_)
    · match a with
      | ⟨0, _⟩ => show (y 0).val = 0 + 0; omega
      | ⟨1, _⟩ => show (y 1).val = 0 + (y 1).val; omega
      | ⟨2, _⟩ => show (y 2).val = 128 + ((y 2).val - 128); omega
    · show attn _ _ _ (128 + ((y 2).val - 128)) = _
      congr 1; omega
  refine (View.read_writes_cons_unit_of_not_mem _ _ _ _ _ y rfl 2 (Or.inl (by show (y 2).val < 128; omega))).trans ?_
  refine (View.read_writes_cons_unit_of_mem _ _ _ _ _ y (ix3 (0 : Fin 1) ⟨(y 1).val, y1⟩ (⟨(y 2).val, by omega⟩ : Fin 128)) rfl fun a => ?_).trans
    ((out1_at m c t _ _).trans ?_)
  · match a with
    | ⟨0, _⟩ => show (y 0).val = 0 + 0; omega
    | ⟨1, _⟩ => show (y 1).val = 0 + (y 1).val; omega
    | ⟨2, _⟩ => show (y 2).val = 0 + (y 2).val; omega
  · show attn _ _ _ (0 + (y 2).val) = _
    rw [Nat.zero_add]

/-- The result array the pipeline leaves. -/
def G (c : Dev nD) : Buf (Elt Ideal) ((c.tc : Thread nD τ).loc main_v12) :=
  fun i : S2x8192x512.Idx => attn (arg m c) (i 0) (i 1).val (i 2).val

theorem final_4 (c : Dev nD) : (dats m 0 c).arrAt 4 (cfg0 (F := Ideal)).N = G m c := by
  refine (dats m 0 c).arrAt_eq_of_covers 4 _ (by decide +kernel) fun t hf y => ?_
  blk_simp [iblk, idx4]
  rw [after_4]
  refine (outAt_at m c t y).trans ?_
  show _ = attn (arg m c) (((win0_4.blk t).view.emb y) 0) (((win0_4.blk t).view.emb y) 1).val (((win0_4.blk t).view.emb y) 2).val
  have e0 : ((win0_4.blk t).view.emb y) 0 = bat t := Fin.ext (by
    have y0 : (y 0).val < 1 := (y 0).isLt
    blk_simp [idx4])
  have e1 : (((win0_4.blk t).view.emb y) 1).val = 128 * (grid0.coords t 1).val + (y 1).val := by
    blk_simp [idx4]; omega
  have e2 : (((win0_4.blk t).view.emb y) 2).val = (y 2).val := by blk_simp [idx4]
  rw [e0, e1, e2]

open Idealize.SL.Sem in
/-- Every run leaves the result array at the closed form and the argument unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v12) = G m c
      ∧ r.2.mem ((c.tc : Thread nD τ).loc main_arg0) = m ((c.tc : Thread nD τ).loc main_arg0)) :=
  (θ_run defs _ _).mono
    (fun _ h c => ⟨((h.1 c).1 4).trans (final_4 m c),
      ((h.1 c).1 2).trans (((dats m 0 c).arrAt_in 2 rfl _).trans ((A_eq m c 2).trans (V_arg m c)))⟩)
    (run_full m ρ)

end Cert.Proof.KI

end
-- ==== Proof.Ref.lean ====
/-
  The reference's result at an index is `attn`.
-/
module

public import proofs.«01_k».proof.Proof.Gen.ReferenceIdeal.Read
public import proofs.«01_k».proof.Proof.Attn
public import Idealize.ShloMosaic.Lib.Tactic.WordOmega

@[expose] public section

set_option maxRecDepth 16384

noncomputable section

namespace Cert.Proof.Ref

open Cert.ReferenceIdeal Cert.ReferenceIdeal.Read Cert.Stick
open Idealize.ShloMosaic

variable (x : (⟨S2x8192x1536, .bf16⟩ : BufTy).Contents (Elt Ideal))

/-- Host softplus, as `log_sigmoid` prints it, is `soft`: the branch for a value that is not a number is never taken. -/
theorem softplus_host (y : EReal) :
    (Scalar.select
        (FloatOps.cmpf (F := Ideal) (φ := .f32) CmpFPredicate.une
          (FloatOps.subf (F := Ideal) (φ := .f32) y (FloatOps.ofBits FTy.f32 0#32))
          (FloatOps.subf (F := Ideal) (φ := .f32) y (FloatOps.ofBits FTy.f32 0#32)))
        (FloatOps.addf (F := Ideal) (φ := .f32) y (FloatOps.ofBits FTy.f32 0#32))
        (FloatOps.addf (F := Ideal) (φ := .f32)
          (FloatOps.maximumf (F := Ideal) (φ := .f32) y (FloatOps.ofBits FTy.f32 0#32))
          (FloatOps.hostUnary (F := Ideal) (φ := .f32) HostUnaryOp.log1p
            (FloatOps.hostUnary (F := Ideal) (φ := .f32) HostUnaryOp.exp
              (FloatOps.hostNegf (F := Ideal) (φ := .f32)
                (FloatOps.hostAbsf (F := Ideal) (φ := .f32)
                  (FloatOps.subf (F := Ideal) (φ := .f32) y (FloatOps.ofBits FTy.f32 0#32))))))) : EReal) = soft y := by
  have z0 : (FloatOps.ofBits (F := Ideal) FTy.f32 0#32 : EReal) = 0 := Ideal.ofBits_zero_f32
  have c0 : FloatOps.cmpf (F := Ideal) (φ := .f32) CmpFPredicate.une
          (FloatOps.subf (F := Ideal) (φ := .f32) y (FloatOps.ofBits FTy.f32 0#32))
          (FloatOps.subf (F := Ideal) (φ := .f32) y (FloatOps.ofBits FTy.f32 0#32)) = 0#1 := by
    simp [FloatOps.cmpf, Ideal.cmp]
  rw [c0, z0]
  show max y 0 + Ideal.log (1 + Ideal.exp (-(max (y - 0) (-(y - 0))))) = _
  unfold soft
  rw [sub_zero, zero_sub]

theorem v18_at (i : S2x8x8192x8192.Idx) : val_main_v18 (F := Ideal) x i = keep (val_main_v10 (F := Ideal) x i) := by
  simp only [val_main_v18_apply, val_main_call0_v1_apply, val_main_call0_call0_v11_apply, val_main_call0_call0_v10_apply,
    val_main_call0_call0_v9_apply, val_main_call0_call0_v8_apply, val_main_call0_call0_v7_apply, val_main_call0_call0_v6_apply,
    val_main_call0_call0_v5_apply, val_main_call0_call0_v4_apply, val_main_call0_call0_v3_apply, val_main_call0_call0_v2_apply,
    val_main_call0_call0_v1_apply, val_main_call0_call0_v0_apply, val_main_call0_call0_cst_apply, val_main_call0_v0_apply,
    val_main_v17_apply]
  refine (congrArg (fun y : EReal => -y) (softplus_host _)).trans ?_
  show -(soft (- -(val_main_v10 (F := Ideal) x i))) = 0 - soft (val_main_v10 (F := Ideal) x i)
  rw [neg_neg, zero_sub]

theorem v22_at (i : S2x8x8192x8192.Idx) : val_main_v22 (F := Ideal) x i = (-(soft (-(val_main_v10 (F := Ideal) x i : EReal))) : EReal) := by
  simp only [val_main_v22_apply, val_main_call3_v1_apply, val_main_call3_call0_v11_apply, val_main_call3_call0_v10_apply,
    val_main_call3_call0_v9_apply, val_main_call3_call0_v8_apply, val_main_call3_call0_v7_apply, val_main_call3_call0_v6_apply,
    val_main_call3_call0_v5_apply, val_main_call3_call0_v4_apply, val_main_call3_call0_v3_apply, val_main_call3_call0_v2_apply,
    val_main_call3_call0_v1_apply, val_main_call3_call0_v0_apply, val_main_call3_call0_cst_apply, val_main_call3_v0_apply]
  exact congrArg (fun y : EReal => -y) (softplus_host _)

/-- A key is looked at where it stands before the query. -/
theorem v16_at (i : S8192x8192.Idx) : val_main_v16 (F := Ideal) i = if (i 1).val < (i 0).val then 1#1 else 0#1 := by
  simp only [val_main_v16_apply, val_main_v15_apply, val_main_v14_apply, val_main_v13_apply, val_main_v12_apply, val_main_v11_apply]
  have h0 : (i 0).val < 8192 := (i 0).isLt
  have h1 : (i 1).val < 8192 := (i 1).isLt
  show IntOp.cmpi CmpIPredicate.slt (BitVec.ofNat 32 (i 1).val) (BitVec.ofNat 32 (i 0).val) = _
  split_ifs <;> word_omega

/-- A left fold of additions is a sum. -/
theorem foldl_add_sum {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- A window that begins at `j` and overhangs the end covers what stands at `j` and after. -/
theorem sum_overhang (X : ℕ → EReal) (N j : ℕ) :
    (∑ k ∈ Finset.range N, if j + k < N then X (j + k) else 0) = ∑ p ∈ Finset.range N, if j ≤ p then X p else 0 := by
  rw [← Finset.sum_filter, ← Finset.sum_filter]
  refine Finset.sum_nbij (fun k => j + k) (fun k hk => ?_) (fun a _ b _ h => by simpa using h) (fun p hp => ?_) (fun _ _ => rfl)
  · simp only [Finset.mem_filter, Finset.mem_range] at hk ⊢; omega
  · simp only [Finset.coe_filter, Finset.mem_range, Set.mem_setOf_eq, Set.mem_image] at hp ⊢
    exact ⟨p - j, by omega, by omega⟩

/-- What stands at `j` and after is what stands after `j`, with `j`'s own. -/
theorem sum_from (X : ℕ → EReal) {N j : ℕ} (hj : j < N) :
    (∑ p ∈ Finset.range N, if j ≤ p then X p else 0) = (∑ p ∈ Finset.range N, if j < p then X p else 0) + X j := by
  have e : X j = ∑ p ∈ Finset.range N, if p = j then X p else 0 := by
    rw [Finset.sum_ite_eq' (Finset.range N) j X, if_pos (Finset.mem_range.mpr hj)]
  conv_rhs => rw [e]
  rw [← Finset.sum_add_distrib]
  refine Finset.sum_congr rfl fun p _ => ?_
  rcases lt_trichotomy p j with h | h | h
  · rw [if_neg (by omega), if_neg (by omega), if_neg (by omega), add_zero]
  · rw [if_pos (by omega), if_neg (by omega), if_pos h, zero_add]
  · rw [if_pos (by omega), if_pos h, if_neg (by omega), add_zero]

/-- The positions of the window are the numbers below 8192. -/
def winEquiv : (⟨4, ![1, 1, 1, 8192]⟩ : Shape).Idx ≃ Fin 8192 where
  toFun w := w 3
  invFun k := ValueIdx.ix4 0 0 0 k
  left_inv w := by
    funext a
    match a with
    | ⟨0, _⟩ => exact Fin.ext (by have := (w 0).isLt; show 0 = (w 0).val; change (w 0).val < 1 at this; omega)
    | ⟨1, _⟩ => exact Fin.ext (by have := (w 1).isLt; show 0 = (w 1).val; change (w 1).val < 1 at this; omega)
    | ⟨2, _⟩ => exact Fin.ext (by have := (w 2).isLt; show 0 = (w 2).val; change (w 2).val < 1 at this; omega)
    | ⟨3, _⟩ => rfl
  right_inv k := rfl

/-- The host's window sum from zero, as a sum over the window's positions. -/
theorem window_sum {s t u : Shape} (window strides lo hi : Fin s.rank → ℕ) (y : FVec Ideal s .f32) (init : u.Idx → Ideal .f32)
    (h : s.ReduceWindows window strides lo hi t) (hu : 0 < u.numel) (hv : init (Shape.Idx.first hu) = (0 : EReal)) (j : t.Idx) :
    Host.reduceWindowAdd (F := Ideal) window strides lo hi y init h hu j
      = ∑ w : (⟨s.rank, window⟩ : Shape).Idx,
          if hin : ∀ a, lo a ≤ (j (a.cast h.1.symm)).val * strides a + (w a).val
              ∧ (j (a.cast h.1.symm)).val * strides a + (w a).val - lo a < s.size a then
            (y (fun a => ⟨(j (a.cast h.1.symm)).val * strides a + (w a).val - lo a, (hin a).2⟩) : EReal)
          else 0 := by
  show Ideal.hostReduceWindowAdd window strides lo hi h y (init (Shape.Idx.first hu)) j = _
  rw [hv]
  unfold Ideal.hostReduceWindowAdd Host.reduceWindow
  dsimp only
  rw [foldl_add_sum, zero_add, ← Fin.sum_univ_def, ← Equiv.sum_comp (⟨s.rank, window⟩ : Shape).rowMajor]
  simp only [Equiv.symm_apply_apply]

/-- The reference's reversed running sum, at an index: the sum of what stands there and after. -/
theorem v20_at (i : S2x8x8192x8192.Idx) (X : ℕ → EReal)
    (hX : ∀ i' : S2x8x8192x8192.Idx, (i' 0).val = (i 0).val → (i' 1).val = (i 1).val → (i' 2).val = (i 2).val →
      val_main_v19 (F := Ideal) x i' = X (i' 3).val) :
    val_main_v20 (F := Ideal) x i = ∑ p ∈ Finset.range 8192, if (i 3).val ≤ p then X p else 0 := by
  have hv : val_main_call2_v0 (F := Ideal) (Shape.Idx.first Facts₀.h_S_) = (0 : EReal) := by
    rw [val_main_call2_v0_apply, val_main_call2_cst_apply]; exact Ideal.ofBits_zero_f32
  unfold val_main_v20
  rw [window_sum _ _ _ _ _ _ _ _ hv, ← sum_overhang, Finset.sum_range]
  refine Fintype.sum_equiv winEquiv _ _ fun w => ?_
  have h0 : (i 0).val < 2 := (i 0).isLt
  have h1 : (i 1).val < 8 := (i 1).isLt
  have h2 : (i 2).val < 8192 := (i 2).isLt
  have w0 : (w 0).val < 1 := (w 0).isLt
  have w1 : (w 1).val < 1 := (w 1).isLt
  have w2 : (w 2).val < 1 := (w 2).isLt
  have ew : (winEquiv w).val = (w 3).val := rfl
  rw [ew]
  split_ifs with hin hk hk
  · refine (hX _ ?_ ?_ ?_).trans (congrArg X ?_)
    · show (i 0).val * 1 + (w 0).val - 0 = (i 0).val; omega
    · show (i 1).val * 1 + (w 1).val - 0 = (i 1).val; omega
    · show (i 2).val * 1 + (w 2).val - 0 = (i 2).val; omega
    · show (i 3).val * 1 + (w 3).val - 0 = (i 3).val + (w 3).val; omega
  · have h := (hin 3).2
    change (i 3).val * 1 + (w 3).val - 0 < 8192 at h
    omega
  · refine absurd (fun a => ?_) hin
    match a with
    | ⟨0, _⟩ => show 0 ≤ (i 0).val * 1 + (w 0).val ∧ (i 0).val * 1 + (w 0).val - 0 < 2; omega
    | ⟨1, _⟩ => show 0 ≤ (i 1).val * 1 + (w 1).val ∧ (i 1).val * 1 + (w 1).val - 0 < 8; omega
    | ⟨2, _⟩ => show 0 ≤ (i 2).val * 1 + (w 2).val ∧ (i 2).val * 1 + (w 2).val - 0 < 8192; omega
    | ⟨3, _⟩ => show 0 ≤ (i 3).val * 1 + (w 3).val ∧ (i 3).val * 1 + (w 3).val - 0 < 8192; omega
  · rfl

/-! ### The three operands -/

theorem v7_at (i : S2x8x8192x64.Idx) :
    val_main_v7 (F := Ideal) x i = arr x (i 0) (i 2).val (64 * (i 1).val + (i 3).val) := by
  have h0 : (i 0).val < 2 := (i 0).isLt
  have h1 : (i 1).val < 8 := (i 1).isLt
  have h2 : (i 2).val < 8192 := (i 2).isLt
  have h3 : (i 3).val < 64 := (i 3).isLt
  rw [val_main_v7_apply, val_main_v4_apply, val_main_v1_apply, val_main_v0_apply]
  refine arr_of_idx x _ _ _ _ ?_ ?_ ?_
  · show (((((i 0).val * 8192 + (i 2).val) * 8 + (i 1).val) * 64 + (i 3).val) / 4194304) = (i 0).val; omega
  · show (((((i 0).val * 8192 + (i 2).val) * 8 + (i 1).val) * 64 + (i 3).val) / 512 % 8192) = (i 2).val; omega
  · show (((((i 0).val * 8192 + (i 2).val) * 8 + (i 1).val) * 64 + (i 3).val) % 512) = 64 * (i 1).val + (i 3).val; omega

theorem v8_at (i : S2x8x8192x64.Idx) :
    val_main_v8 (F := Ideal) x i = arr x (i 0) (i 2).val (512 + (64 * (i 1).val + (i 3).val)) := by
  have h0 : (i 0).val < 2 := (i 0).isLt
  have h1 : (i 1).val < 8 := (i 1).isLt
  have h2 : (i 2).val < 8192 := (i 2).isLt
  have h3 : (i 3).val < 64 := (i 3).isLt
  rw [val_main_v8_apply, val_main_v5_apply, val_main_v2_apply, val_main_v0_apply]
  refine arr_of_idx x _ _ _ _ ?_ ?_ ?_
  · show (((((i 0).val * 8192 + (i 2).val) * 8 + (i 1).val) * 64 + (i 3).val) / 4194304) = (i 0).val; omega
  · show (((((i 0).val * 8192 + (i 2).val) * 8 + (i 1).val) * 64 + (i 3).val) / 512 % 8192) = (i 2).val; omega
  · show 512 + (((((i 0).val * 8192 + (i 2).val) * 8 + (i 1).val) * 64 + (i 3).val) % 512) = 512 + (64 * (i 1).val + (i 3).val); omega

theorem v9_at (i : S2x8x8192x64.Idx) :
    val_main_v9 (F := Ideal) x i = arr x (i 0) (i 2).val (1024 + (64 * (i 1).val + (i 3).val)) := by
  have h0 : (i 0).val < 2 := (i 0).isLt
  have h1 : (i 1).val < 8 := (i 1).isLt
  have h2 : (i 2).val < 8192 := (i 2).isLt
  have h3 : (i 3).val < 64 := (i 3).isLt
  rw [val_main_v9_apply, val_main_v6_apply, val_main_v3_apply, val_main_v0_apply]
  refine arr_of_idx x _ _ _ _ ?_ ?_ ?_
  · show (((((i 0).val * 8192 + (i 2).val) * 8 + (i 1).val) * 64 + (i 3).val) / 4194304) = (i 0).val; omega
  · show (((((i 0).val * 8192 + (i 2).val) * 8 + (i 1).val) * 64 + (i 3).val) / 512 % 8192) = (i 2).val; omega
  · show 1024 + (((((i 0).val * 8192 + (i 2).val) * 8 + (i 1).val) * 64 + (i 3).val) % 512) = 1024 + (64 * (i 1).val + (i 3).val); omega

/-! ### Scores, weights, result -/

/-- The score of the key at `p` for the query at `s`, in head `h`. -/
def sc (b : Fin 2) (h s p : ℕ) : EReal := ∑ d : Fin 64, arr x b s (64 * h + d.val) * arr x b p (512 + (64 * h + d.val))

theorem v10_at (i : S2x8x8192x8192.Idx) : val_main_v10 (F := Ideal) x i = sc x (i 0) (i 1).val (i 2).val (i 3).val := by
  rw [val_main_v10_apply]
  unfold sc
  refine Finset.sum_congr rfl fun d _ => ?_
  rw [v7_at, v8_at]
  rfl

/-- The log-weights a key keeps, zero at and after the query. -/
theorem v19_at (i : S2x8x8192x8192.Idx) :
    val_main_v19 (F := Ideal) x i = if (i 3).val < (i 2).val then keep (sc x (i 0) (i 1).val (i 2).val (i 3).val) else 0 := by
  rw [val_main_v19_apply, val_main_call1_v1_apply, v16_at, v18_at, v10_at, val_main_call1_v2_apply, val_main_call1_v0_apply,
    val_main_cst_apply]
  have z0 : (FloatOps.ofBits (F := Ideal) FTy.f32 0#32 : EReal) = 0 := Ideal.ofBits_zero_f32
  show Scalar.select (if (i 3).val < (i 2).val then 1#1 else 0#1) _ _ = _
  rw [z0]
  split_ifs
  · exact if_pos rfl
  · exact if_neg (by decide)

/-- A key's weight. -/
theorem v25_at (i : S2x8x8192x8192.Idx) :
    val_main_v25 (F := Ideal) x i = if (i 3).val < (i 2).val then
        Ideal.exp ((sc x (i 0) (i 1).val (i 2).val (i 3).val - soft (sc x (i 0) (i 1).val (i 2).val (i 3).val))
          + ∑ p' ∈ Finset.range 8192, if (i 3).val < p' then
              (if p' < (i 2).val then keep (sc x (i 0) (i 1).val (i 2).val p') else 0) else 0)
      else 0 := by
  have h3 : (i 3).val < 8192 := (i 3).isLt
  rw [val_main_v25_apply, val_main_call4_v1_apply, v16_at, val_main_call4_v2_apply, val_main_call4_v0_apply,
    val_main_cst_0_apply, val_main_v24_apply, val_main_v23_apply, v22_at, val_main_v21_apply, v19_at,
    v20_at x i (fun p => if p < (i 2).val then keep (sc x (i 0) (i 1).val (i 2).val p) else 0) (fun i' e0 e1 e2 => by
      rw [v19_at, Fin.ext (a := i' 0) (b := i 0) e0, e1, e2]),
    sum_from _ h3, v10_at]
  have z0 : (FloatOps.ofBits (F := Ideal) FTy.f32 0#32 : EReal) = 0 := Ideal.ofBits_zero_f32
  show Scalar.select (if (i 3).val < (i 2).val then 1#1 else 0#1) _ _ = _
  rw [z0]
  split_ifs with h
  · refine (if_pos rfl).trans ?_
    exact weight_eq _ _
  · exact if_neg (by decide)

/-- The reference's result at an index. -/
theorem v29_at (i : S2x8192x512.Idx) : val_main_v29 (F := Ideal) x i = attn x (i 0) (i 1).val (i 2).val := by
  have h0 : (i 0).val < 2 := (i 0).isLt
  have h1 : (i 1).val < 8192 := (i 1).isLt
  have h2 : (i 2).val < 512 := (i 2).isLt
  rw [val_main_v29_apply, val_main_v28_apply, val_main_v27_apply, val_main_v26_apply]
  unfold attn row
  rw [Finset.sum_range]
  refine Finset.sum_congr rfl fun k _ => ?_
  have e0 : lidx_main_v26 (idx_main_v27 (idx_main_v28 i)) k 0 = i 0 := Fin.ext (by
    show (((i 0).val * 8192 + (i 1).val) * 512 + (i 2).val) / 4194304 = (i 0).val; omega)
  have e1 : (lidx_main_v26 (idx_main_v27 (idx_main_v28 i)) k 1).val = (i 2).val / 64 := by
    show (((i 0).val * 8192 + (i 1).val) * 512 + (i 2).val) / 64 % 8 = (i 2).val / 64; omega
  have e2 : (lidx_main_v26 (idx_main_v27 (idx_main_v28 i)) k 2).val = (i 1).val := by
    show (((i 0).val * 8192 + (i 1).val) * 512 + (i 2).val) / 512 % 8192 = (i 1).val; omega
  have e3 : (lidx_main_v26 (idx_main_v27 (idx_main_v28 i)) k 3).val = k.val := rfl
  have r0 : ridx_main_v26 (idx_main_v27 (idx_main_v28 i)) k 0 = i 0 := e0

  have r2 : (ridx_main_v26 (idx_main_v27 (idx_main_v28 i)) k 2).val = k.val := rfl
  have r3 : (ridx_main_v26 (idx_main_v27 (idx_main_v28 i)) k 3).val = (i 2).val % 64 := by
    show (((i 0).val * 8192 + (i 1).val) * 512 + (i 2).val) % 64 = (i 2).val % 64; omega
  rw [v25_at, v9_at, e0, e1, e2, e3, r0, r2, r3, show 64 * ((i 2).val / 64) + (i 2).val % 64 = (i 2).val by omega]
  rfl

end Cert.Proof.Ref

end
-- ==== Proof.Post.Row.lean ====
/-
  The part of the layer after its attention, one token at a time: each definition takes the rows of one token and gives a
  row. The idealized kernel and the reference are each proved to give these rows.
-/
module

public import Idealize.ShloMosaic.Lib.Pointwise

@[expose] public section

noncomputable section

namespace Cert.Rows

open Idealize.ShloMosaic

/-- A row divided by the square root of its squares' mean (which a small constant is added to), times the gains. -/
def rms (v g : Fin 1024 → EReal) (l : Fin 1024) : EReal :=
  v l * Ideal.rsqrt (Ideal.div (∑ k, v k * v k) (Ideal.ofBits FTy.f32 0x44800000#32) + Ideal.ofBits FTy.f32 0x358637BD#32) * g l

/-- The normalized row, scaled and shifted by the modulation. -/
def modulated (v g sc sh : Fin 1024 → EReal) (l : Fin 1024) : EReal := rms v g l * (1 + sc l) + sh l

/-- A row plus the gated, normalized row of a branch. -/
def residual (x gate v g : Fin 1024 → EReal) (l : Fin 1024) : EReal := x l + gate l * rms v g l

/-- A row times a matrix. -/
def times {n w : ℕ} (v : Fin n → EReal) (a : Fin n → Fin w → EReal) (l : Fin w) : EReal := ∑ k, v k * a k l

/-- The two branches merged: the first one plus the gated projection of the attention's row. -/
def merged (o : Fin 512 → EReal) (ya gate : Fin 1024 → EReal) (wp : Fin 512 → Fin 1024 → EReal) (l : Fin 1024) : EReal :=
  ya l + gate l * times o wp l

/-- The hidden layer's activation: the square of the positive part. -/
def squaredRelu (v : Fin 4096 → EReal) (k : Fin 4096) : EReal := max (v k) 0 * max (v k) 0

/-- The token's row after the mixer's residual. -/
def mixed (x : Fin 1024 → EReal) (o : Fin 512 → EReal) (ya gate gt1 g1 : Fin 1024 → EReal) (wp : Fin 512 → Fin 1024 → EReal)
    (wo : Fin 1024 → Fin 1024 → EReal) : Fin 1024 → EReal :=
  residual x gt1 (times (merged o ya gate wp) wo) g1

/-- The token's row after the MLP's residual, from its row `x` before. -/
def mlp (x gt2 sc sh g2 g3 : Fin 1024 → EReal) (wi : Fin 1024 → Fin 4096 → EReal) (wo : Fin 4096 → Fin 1024 → EReal) : Fin 1024 → EReal :=
  residual x gt2 (times (squaredRelu (times (modulated x g2 sc sh) wi)) wo) g3

/-- An array's type, by its axes. -/
abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal

/-- The `n`-th of the six modulation rows of batch `b`, which lie side by side. -/
def modRow (md : Arr2 2 6144) (b : Fin 2) (n : Fin 6) (l : Fin 1024) : EReal := md (ix2 b ⟨1024 * n.val + l.val, by omega⟩)

/-- The layer's output at a token of batch `b`, from the twelve arrays. -/
def post (x : Arr3 2 8192 1024) (o : Arr3 2 8192 512) (ya gate : Arr3 2 8192 1024) (md : Arr2 2 6144) (g1 g2 g3 : Arr1 1024)
    (wp : Arr2 512 1024) (wo : Arr2 1024 1024) (w1 : Arr2 1024 4096) (w2 : Arr2 4096 1024) (b : Fin 2) (p : Fin 8192) : Fin 1024 → EReal :=
  mlp
    (mixed (fun l => x (ix3 b p l)) (fun d => o (ix3 b p d)) (fun l => ya (ix3 b p l)) (fun l => gate (ix3 b p l)) (modRow md b 2)
      (fun l => g1 (ix1 l)) (fun d l => wp (ix2 d l)) (fun k l => wo (ix2 k l)))
    (modRow md b 5) (modRow md b 4) (modRow md b 3) (fun l => g2 (ix1 l)) (fun l => g3 (ix1 l))
    (fun l k => w1 (ix2 l k)) (fun k l => w2 (ix2 k l))

end Cert.Rows

end
-- ==== Proof.Post.Pay.lean ====
/-
  What the values the post-mixer body computes hold at an index, at the ideal instance, in the terms of `Cert.Rows`.
-/
module

public import proofs.«01_k».proof.Proof.Gen.Kernel2Ideal.Value
public import proofs.«01_k».proof.Proof.Post.Row

@[expose] public section

set_option maxRecDepth 16384

noncomputable section

namespace Cert.Proof.Post

open Cert.Kernel2Ideal Cert.Kernel2Ideal.Gen Cert.Rows
open Idealize.ShloMosaic

theorem pay10_at (v14 : Vec Ideal S1x512x512 .bf16) (v16 : Vec Ideal S512x1024 .bf16) (v19 v22 : Vec Ideal S1x512x1024 .bf16) (r : Fin 512) (l : Fin 1024) :
    k0_pay10 v14 v16 v19 v22 (ix2 r l)
      = merged (fun d => v14 (ix3 0 r d)) (fun k => v19 (ix3 0 r k)) (fun k => v22 (ix3 0 r k)) (fun d k => v16 (ix2 d k)) l := by
  pointwise [k0_pay10]; rfl

theorem pay11_at (v1 v9 : FVec Ideal S1x1024 .f32) (v27 : FVec Ideal S512x1024 .bf16) (v28 : Vec Ideal S1024x1024 .bf16) (v31 : Vec Ideal S1x512x1024 .f32) (r : Fin 512) (l : Fin 1024) :
    k0_pay11 v1 v9 v27 v28 v31 (ix2 r l)
      = residual (fun k => v31 (ix3 0 r k)) (fun k => v1 (ix2 0 k)) (times (fun k => v27 (ix2 r k)) fun k j => v28 (ix2 k j)) (fun k => v9 (ix2 0 k)) l := by
  pointwise [k0_pay11]; rfl

theorem pay12_at (v1 v3 v5 v9 v11 : FVec Ideal S1x1024 .f32) (v27 : FVec Ideal S512x1024 .bf16) (v28 : Vec Ideal S1024x1024 .bf16) (v31 : Vec Ideal S1x512x1024 .f32) (v67 : Vec Ideal S1024x4096 .bf16) (r : Fin 512) (k : Fin 4096) :
    k0_pay12 v1 v3 v5 v9 v11 v27 v28 v31 v67 (ix2 r k)
      = times (modulated (fun l => k0_pay11 v1 v9 v27 v28 v31 (ix2 r l)) (fun l => v11 (ix2 0 l)) (fun l => v5 (ix2 0 l)) fun l => v3 (ix2 0 l))
          (fun l j => v67 (ix2 l j)) k := by
  pointwise [k0_pay12]; rfl

theorem pay1_at (v69 : FVec Ideal S512x4096 .f32) (r : Fin 512) (k : Fin 4096) :
    k0_pay1 v69 k0_pay13 (ix2 r k) = squaredRelu (fun j => v69 (ix2 r j)) k := by
  pointwise [k0_pay1, k0_pay13]; rfl

theorem pay2_at (v7 v13 : FVec Ideal S1x1024 .f32) (v47 : FVec Ideal S512x1024 .f32) (v77 : Vec Ideal S512x4096 .bf16) (v78 : Vec Ideal S4096x1024 .bf16) (r : Fin 512) (l : Fin 1024) :
    k0_pay2 v7 v13 v47 v77 v78 (ix3 0 r l)
      = residual (fun k => v47 (ix2 r k)) (fun k => v7 (ix2 0 k)) (times (fun k => v77 (ix2 r k)) fun k j => v78 (ix2 k j)) (fun k => v13 (ix2 0 k)) l := by
  pointwise [k0_pay2]; rfl

/-! ### The rows of the modulation and the gains -/

theorem pay3_at (v : Vec Ideal S1x1x1024 .f32) (l : Fin 1024) : k0_pay3 v (ix2 0 l) = v (ix3 0 0 l) := by pointwise [k0_pay3]
theorem pay4_at (v : Vec Ideal S1x1x1024 .f32) (l : Fin 1024) : k0_pay4 v (ix2 0 l) = v (ix3 0 0 l) := by pointwise [k0_pay4]
theorem pay5_at (v : Vec Ideal S1x1x1024 .f32) (l : Fin 1024) : k0_pay5 v (ix2 0 l) = v (ix3 0 0 l) := by pointwise [k0_pay5]
theorem pay6_at (v : Vec Ideal S1x1x1024 .f32) (l : Fin 1024) : k0_pay6 v (ix2 0 l) = v (ix3 0 0 l) := by pointwise [k0_pay6]
theorem pay7_at (v : Vec Ideal S1x1024 .f32) (l : Fin 1024) : k0_pay7 v (ix2 0 l) = v (ix2 0 l) := by pointwise [k0_pay7]
theorem pay8_at (v : Vec Ideal S1x1024 .f32) (l : Fin 1024) : k0_pay8 v (ix2 0 l) = v (ix2 0 l) := by pointwise [k0_pay8]
theorem pay9_at (v : Vec Ideal S1x1024 .f32) (l : Fin 1024) : k0_pay9 v (ix2 0 l) = v (ix2 0 l) := by pointwise [k0_pay9]

end Cert.Proof.Post

end
-- ==== Proof.Post.Blocks.lean ====
/-
  The blocks the post-mixer body is handed, in coordinates of the arguments, the block it leaves at an index, and the result
  array: `Cert.Rows.post` of the arguments.
-/
module

public import proofs.«01_k».proof.Proof.Post.Pay
public import Idealize.ShloMosaic.Lib.Pipeline.ValueKit
public import Idealize.ShloMosaic.Lib.StableHlo.ReadAt

@[expose] public section

set_option maxRecDepth 16384

noncomputable section

namespace Cert.Proof.Post

open Cert.Kernel2Ideal Cert.Kernel2Ideal.Gen Cert.Rows
open Idealize.ShloMosaic Idealize.ShloMosaic.Pipeline

/-! ### Where the blocks lie -/

theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![(grid0.coords t 0).val, (grid0.coords t 1).val, 0] :=
  (by decide +kernel : ∀ t : Fin grid0.N, _)
theorem idx2 : ∀ t : Fin cfg0.N, win0_2.index t = ![(grid0.coords t 0).val, (grid0.coords t 1).val, 0] :=
  (by decide +kernel : ∀ t : Fin grid0.N, _)
theorem idx3 : ∀ t : Fin cfg0.N, win0_3.index t = ![(grid0.coords t 0).val, (grid0.coords t 1).val, 0] :=
  (by decide +kernel : ∀ t : Fin grid0.N, _)
theorem idx4 : ∀ t : Fin cfg0.N, win0_4.index t = ![(grid0.coords t 0).val, 0, 0] :=
  (by decide +kernel : ∀ t : Fin grid0.N, _)
theorem idx5 : ∀ t : Fin cfg0.N, win0_5.index t = ![0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![0, 0] :=
  (by decide +kernel : ∀ t : Fin grid0.N, _)
theorem idx9 : ∀ t : Fin cfg0.N, win0_9.index t = ![0, 0] :=
  (by decide +kernel : ∀ t : Fin grid0.N, _)
theorem idx10 : ∀ t : Fin cfg0.N, win0_10.index t = ![(grid0.coords t 0).val, (grid0.coords t 1).val, 0] :=
  (by decide +kernel : ∀ t : Fin grid0.N, _)

/-- The batch a point works on. -/
abbrev bat (t : Fin cfg0.N) : Fin 2 := grid0.coords t 0

/-- The position of a row of a point's block. -/
def pos (t : Fin cfg0.N) (r : Fin 512) : Fin 8192 := ⟨512 * (grid0.coords t 1).val + r.val, by
  have : (grid0.coords t 1).val < 16 := (grid0.coords t 1).isLt
  omega⟩

variable (m : (ℓ : Loc nD τ sig) → Buf (Elt Ideal) ℓ)

/-! ### What the host operations before the region leave -/

theorem mod_at (c : Dev nD) (b : Fin 2) (n : Fin 6) (l : Fin 1024) :
    (V m c main_v4 : Vec Ideal S2x6x1024 .f32) (ix3 b n l) = modRow (m ((c.tc : Thread nD τ).loc main_arg4)) b n l := by
  unfold V
  simp only [hostOps0]
  after_reads_at
  unfold modRow
  refine congrArg (fun q => m ((c.tc : Thread nD τ).loc main_arg4) (ix2 b q)) (Fin.ext ?_)
  show n.val * 1024 + l.val = 1024 * n.val + l.val
  omega

theorem gain0_at (c : Dev nD) (l : Fin 1024) :
    (V m c main_v3 : Vec Ideal S3x1024 .f32) (ix2 0 l) = m ((c.tc : Thread nD τ).loc main_arg5) (ix1 l) := by
  unfold V
  simp only [hostOps0]
  after_reads_at
  rw [StableHlo.unary_result']
  after_reads_at

theorem gain1_at (c : Dev nD) (l : Fin 1024) :
    (V m c main_v3 : Vec Ideal S3x1024 .f32) (ix2 1 l) = m ((c.tc : Thread nD τ).loc main_arg6) (ix1 l) := by
  unfold V
  simp only [hostOps0]
  after_reads_at
  rw [StableHlo.unary_result']
  after_reads_at

theorem gain2_at (c : Dev nD) (l : Fin 1024) :
    (V m c main_v3 : Vec Ideal S3x1024 .f32) (ix2 2 l) = m ((c.tc : Thread nD τ).loc main_arg7) (ix1 l) := by
  unfold V
  simp only [hostOps0]
  after_reads_at
  rw [StableHlo.unary_result']
  after_reads_at

theorem wp_at (c : Dev nD) (d : Fin 512) (l : Fin 1024) :
    (V m c main_v5 : Vec Ideal S512x1024 .bf16) (ix2 d l) = m ((c.tc : Thread nD τ).loc main_arg8) (ix2 d l) := by
  unfold V
  simp only [hostOps0]
  after_reads_at

theorem wo_at (c : Dev nD) (k l : Fin 1024) :
    (V m c main_v6 : Vec Ideal S1024x1024 .bf16) (ix2 k l) = m ((c.tc : Thread nD τ).loc main_arg9) (ix2 k l) := by
  unfold V
  simp only [hostOps0]
  after_reads_at

theorem w1_at (c : Dev nD) (l : Fin 1024) (k : Fin 4096) :
    (V m c main_v7 : Vec Ideal S1024x4096 .bf16) (ix2 l k) = m ((c.tc : Thread nD τ).loc main_arg10) (ix2 l k) := by
  unfold V
  simp only [hostOps0]
  after_reads_at

theorem w2_at (c : Dev nD) (k : Fin 4096) (l : Fin 1024) :
    (V m c main_v8 : Vec Ideal S4096x1024 .bf16) (ix2 k l) = m ((c.tc : Thread nD τ).loc main_arg11) (ix2 k l) := by
  unfold V
  simp only [hostOps0]
  after_reads_at

/-! ### The blocks at a point -/

theorem b0_at (c : Dev nD) (t : Fin cfg0.N) (r : Fin 512) (l : Fin 1024) :
    (iblk m c 0 t : Vec Ideal S1x512x1024 .f32) (ix3 0 r l) = m ((c.tc : Thread nD τ).loc main_arg0) (ix3 (bat t) (pos t r) l) := by
  unfold pos
  blk_ext [iblk, V, idx0 t]
  rfl

theorem b1_at (c : Dev nD) (t : Fin cfg0.N) (r l : Fin 512) :
    (iblk m c 1 t : Vec Ideal S1x512x512 .bf16) (ix3 0 r l) = m ((c.tc : Thread nD τ).loc main_arg1) (ix3 (bat t) (pos t r) l) := by
  unfold pos
  blk_ext [iblk, V, idx1 t]
  rfl

theorem b2_at (c : Dev nD) (t : Fin cfg0.N) (r : Fin 512) (l : Fin 1024) :
    (iblk m c 2 t : Vec Ideal S1x512x1024 .bf16) (ix3 0 r l) = m ((c.tc : Thread nD τ).loc main_arg2) (ix3 (bat t) (pos t r) l) := by
  unfold pos
  blk_ext [iblk, V, idx2 t]
  rfl

theorem b3_at (c : Dev nD) (t : Fin cfg0.N) (r : Fin 512) (l : Fin 1024) :
    (iblk m c 3 t : Vec Ideal S1x512x1024 .bf16) (ix3 0 r l) = m ((c.tc : Thread nD τ).loc main_arg3) (ix3 (bat t) (pos t r) l) := by
  unfold pos
  blk_ext [iblk, V, idx3 t]
  rfl

theorem b4_at (c : Dev nD) (t : Fin cfg0.N) (n : Fin 6) (l : Fin 1024) :
    (iblk m c 4 t : Vec Ideal S1x6x1024 .f32) (ix3 0 n l) = modRow (m ((c.tc : Thread nD τ).loc main_arg4)) (bat t) n l := by
  rw [← mod_at m c (bat t) n l]
  blk_ext [iblk, idx4 t]
  rfl

theorem b5_at (c : Dev nD) (t : Fin cfg0.N) (n : Fin 3) (l : Fin 1024) :
    (iblk m c 5 t : Vec Ideal S3x1024 .f32) (ix2 n l) = (V m c main_v3 : Vec Ideal S3x1024 .f32) (ix2 n l) := by
  blk_ext [iblk, idx5 t]

theorem b6_at (c : Dev nD) (t : Fin cfg0.N) (d : Fin 512) (l : Fin 1024) :
    (iblk m c 6 t : Vec Ideal S512x1024 .bf16) (ix2 d l) = m ((c.tc : Thread nD τ).loc main_arg8) (ix2 d l) := by
  rw [← wp_at m c d l]
  blk_ext [iblk, idx6 t]

theorem b7_at (c : Dev nD) (t : Fin cfg0.N) (k l : Fin 1024) :
    (iblk m c 7 t : Vec Ideal S1024x1024 .bf16) (ix2 k l) = m ((c.tc : Thread nD τ).loc main_arg9) (ix2 k l) := by
  rw [← wo_at m c k l]
  blk_ext [iblk, idx7 t]

theorem b8_at (c : Dev nD) (t : Fin cfg0.N) (l : Fin 1024) (k : Fin 4096) :
    (iblk m c 8 t : Vec Ideal S1024x4096 .bf16) (ix2 l k) = m ((c.tc : Thread nD τ).loc main_arg10) (ix2 l k) := by
  rw [← w1_at m c l k]
  blk_ext [iblk, idx8 t]

theorem b9_at (c : Dev nD) (t : Fin cfg0.N) (k : Fin 4096) (l : Fin 1024) :
    (iblk m c 9 t : Vec Ideal S4096x1024 .bf16) (ix2 k l) = m ((c.tc : Thread nD τ).loc main_arg11) (ix2 k l) := by
  rw [← w2_at m c k l]
  blk_ext [iblk, idx9 t]

/-- One row of a block read through a rectangle. -/
theorem ld3_at (x : Vec Ideal S1x6x1024 .f32) (n : ℕ) (hn : n < 6) (inb : ∀ a, (![0, n, 0] : Fin 3 → ℕ) a + (![1, 1, 1024] : Fin 3 → ℕ) a ≤ S1x6x1024.size a)
    (l : Fin 1024) : View.ld x (Rect.unit (s := S1x6x1024) ![0, n, 0] ![1, 1, 1024] inb) (ix3 0 0 l) = x (ix3 0 ⟨n, hn⟩ l) := by
  refine congrArg x (funext fun a => Fin.ext ?_)
  match a with
  | ⟨0, _⟩ => rfl
  | ⟨1, _⟩ => rfl
  | ⟨2, _⟩ => show 0 + 1 * l.val = l.val; omega

theorem ld2_at (x : Vec Ideal S3x1024 .f32) (n : ℕ) (hn : n < 3) (inb : ∀ a, (![n, 0] : Fin 2 → ℕ) a + (![1, 1024] : Fin 2 → ℕ) a ≤ S3x1024.size a)
    (l : Fin 1024) : View.ld x (Rect.unit (s := S3x1024) ![n, 0] ![1, 1024] inb) (ix2 0 l) = x (ix2 ⟨n, hn⟩ l) := by
  refine congrArg x (funext fun a => Fin.ext ?_)
  match a with
  | ⟨0, _⟩ => rfl
  | ⟨1, _⟩ => show 0 + 1 * l.val = l.val; omega

/-- The result array. -/
def G (c : Dev nD) : Buf (Elt Ideal) ((c.tc : Thread nD τ).loc main_v9) :=
  fun i : S2x8192x1024.Idx => post (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (i 0) (i 1) (i 2)

/-- The block a point leaves, at an index. -/
theorem outs_at (c : Dev nD) (t : Fin cfg0.N) (r : Fin 512) (l : Fin 1024) :
    (outsAt0 m c t : Vec Ideal S1x512x1024 .f32) (ix3 0 r l) = G m c (ix3 (bat t) (pos t r) l) := by
  unfold outsAt0
  frame_out
  rw [pay2_at]
  simp only [pay1_at, pay12_at, pay11_at, pay10_at, pay3_at, pay4_at, pay5_at, pay6_at, pay7_at, pay8_at, pay9_at]
  have m2 := fun l => (ld3_at (iblk m c 4 t) 2 (by decide) inb_S1x6x1024_S1x1x1024_0_2_0 l).trans (b4_at m c t 2 l)
  have m3 := fun l => (ld3_at (iblk m c 4 t) 3 (by decide) inb_S1x6x1024_S1x1x1024_0_3_0 l).trans (b4_at m c t 3 l)
  have m4 := fun l => (ld3_at (iblk m c 4 t) 4 (by decide) inb_S1x6x1024_S1x1x1024_0_4_0 l).trans (b4_at m c t 4 l)
  have m5 := fun l => (ld3_at (iblk m c 4 t) 5 (by decide) inb_S1x6x1024_S1x1x1024_0_5_0 l).trans (b4_at m c t 5 l)
  have g0 := fun l => (ld2_at (iblk m c 5 t) 0 (by decide) inb_S3x1024_S1x1024_0_0 l).trans ((b5_at m c t 0 l).trans (gain0_at m c l))
  have g1 := fun l => (ld2_at (iblk m c 5 t) 1 (by decide) inb_S3x1024_S1x1024_1_0 l).trans ((b5_at m c t 1 l).trans (gain1_at m c l))
  have g2 := fun l => (ld2_at (iblk m c 5 t) 2 (by decide) inb_S3x1024_S1x1024_2_0 l).trans ((b5_at m c t 2 l).trans (gain2_at m c l))
  simp only [m2, m3, m4, m5, g0, g1, g2, b0_at, b1_at, b2_at, b3_at, b6_at, b7_at, b8_at, b9_at]
  rfl

theorem final_10 (c : Dev nD) : (dats m 0 c).arrAt 10 cfg0.N = G m c := by
  refine (dats m 0 c).arrAt_eq_of_covers 10 _ (by decide +kernel) fun t hf y => ?_
  have y0 : (y 0).val < 1 := (y 0).isLt
  blk_simp [iblk, idx10]
  rw [after0_10]
  have ey : y = ix3 (0 : Fin 1) (y 1 : Fin 512) (y 2 : Fin 1024) := funext fun a => Fin.ext (by
    match a with
    | ⟨0, _⟩ => show (y 0).val = 0; omega
    | ⟨1, _⟩ => rfl
    | ⟨2, _⟩ => rfl)
  refine (congrArg (outsAt0 m c t) ey).trans ((outs_at m c t (y 1) (y 2)).trans (congrArg (G m c) (funext fun a => Fin.ext ?_)))
  match a with
  | ⟨0, _⟩ => blk_simp [idx10]
  | ⟨1, _⟩ => blk_simp [idx10]; exact congrArg (· + (y 1).val) (Nat.mul_comm 512 (grid0.coords t 1).val)
  | ⟨2, _⟩ => blk_simp [idx10]; rfl

end Cert.Proof.Post

end
-- ==== Proof.Post.Ref.lean ====
/-
  The reference's result at an index is `Cert.Rows.post` of its arguments.
-/
module

public import proofs.«01_k».proof.Proof.Gen.Reference2Ideal.Read
public import proofs.«01_k».proof.Proof.Post.Row

@[expose] public section

set_option maxRecDepth 16384

noncomputable section

namespace Cert.Proof.PostRef

open Cert.Reference2Ideal Cert.Reference2Ideal.Read Cert.Rows
open Idealize.ShloMosaic

theorem eq1 {a : ℕ} (j : (⟨1, ![a]⟩ : Shape).Idx) (p : Fin a) (h0 : j 0 = p) : j = ix1 p :=
  funext fun d => match d with
    | ⟨0, _⟩ => h0

theorem eq2 {a b : ℕ} (j : (⟨2, ![a, b]⟩ : Shape).Idx) (p : Fin a) (q : Fin b) (h0 : j 0 = p) (h1 : j 1 = q) : j = ix2 p q :=
  funext fun d => match d with
    | ⟨0, _⟩ => h0
    | ⟨1, _⟩ => h1

theorem eq3 {a b c : ℕ} (j : (⟨3, ![a, b, c]⟩ : Shape).Idx) (p : Fin a) (q : Fin b) (r : Fin c) (h0 : j 0 = p) (h1 : j 1 = q) (h2 : j 2 = r) :
    j = ix3 p q r :=
  funext fun d => match d with
    | ⟨0, _⟩ => h0
    | ⟨1, _⟩ => h1
    | ⟨2, _⟩ => h2

/-- The host's normalization is `rms`. -/
theorem rms_host (v g : Fin 1024 → EReal) (l : Fin 1024) :
    (FloatOps.mulf (F := Ideal) (φ := .f32)
      (FloatOps.mulf (F := Ideal) (φ := .f32) (v l)
        (FloatOps.hostUnary (F := Ideal) (φ := .f32) HostUnaryOp.rsqrt
          (FloatOps.addf (F := Ideal) (φ := .f32)
            (FloatOps.hostDivf (F := Ideal) (φ := .f32)
              ((FloatOps.ofBits (F := Ideal) FTy.f32 0#32 : EReal) + ∑ k, FloatOps.mulf (F := Ideal) (φ := .f32) (v k) (v k) : EReal)
              (FloatOps.ofBits (F := Ideal) FTy.f32 0x44800000#32))
            (FloatOps.ofBits (F := Ideal) FTy.f32 0x358637BD#32)))) (g l) : EReal) = rms v g l := by
  have z0 : (FloatOps.ofBits (F := Ideal) FTy.f32 0#32 : EReal) = 0 := Ideal.ofBits_zero_f32
  rw [z0, zero_add]
  rfl

variable (x0 : (⟨S2x8192x1024, .f32⟩ : BufTy).Contents (Elt Ideal)) (x1 : (⟨S2x8192x512, .bf16⟩ : BufTy).Contents (Elt Ideal))
  (x2 x3 : (⟨S2x8192x1024, .bf16⟩ : BufTy).Contents (Elt Ideal)) (x4 : (⟨S2x6144, .f32⟩ : BufTy).Contents (Elt Ideal))
  (x5 x6 x7 : (⟨S1024, .f32⟩ : BufTy).Contents (Elt Ideal)) (x8 : (⟨S512x1024, .f32⟩ : BufTy).Contents (Elt Ideal))
  (x9 : (⟨S1024x1024, .f32⟩ : BufTy).Contents (Elt Ideal)) (x10 : (⟨S1024x4096, .f32⟩ : BufTy).Contents (Elt Ideal))
  (x11 : (⟨S4096x1024, .f32⟩ : BufTy).Contents (Elt Ideal)) (b : Fin 2) (p : Fin 8192)

theorem v11_at (l : Fin 1024) : val_main_v11 (F := Ideal) x1 x2 x3 x8 (ix3 b p l)
    = merged (fun d => x1 (ix3 b p d)) (fun l => x2 (ix3 b p l)) (fun l => x3 (ix3 b p l)) (fun d l => x8 (ix2 d l)) l := by
  rw [val_main_v11_apply, val_main_v8_apply, val_main_v10_apply, val_main_v9_apply, val_main_v7_apply]
  refine congrArg (fun s : EReal => (x2 (ix3 b p l) : EReal) + x3 (ix3 b p l) * s) (Finset.sum_congr rfl fun k _ => ?_)
  rw [val_main_v6_apply, eq3 (lidx_main_v7 (ix3 b p l) k) b p k rfl rfl rfl, eq2 (ridx_main_v7 (ix3 b p l) k) k l rfl rfl]
  rfl

theorem v12_at (l : Fin 1024) : val_main_v12 (F := Ideal) x1 x2 x3 x8 x9 (ix3 b p l)
    = times (fun l => val_main_v11 (F := Ideal) x1 x2 x3 x8 (ix3 b p l)) (fun k l => x9 (ix2 k l)) l := by
  rw [val_main_v12_apply]
  refine Finset.sum_congr rfl fun k _ => ?_
  rw [eq3 (lidx_main_v12 (ix3 b p l) k) b p k rfl rfl rfl, eq2 (ridx_main_v12 (ix3 b p l) k) k l rfl rfl]

/-- The row after the mixer's residual. -/
abbrev row1 (l : Fin 1024) : EReal := val_main_v29 (F := Ideal) x0 x1 x2 x3 x4 x5 x8 x9 (ix3 b p l)

theorem v26_at (l : Fin 1024) : val_main_v26 (F := Ideal) x1 x2 x3 x5 x8 x9 (ix3 b p l)
    = rms (fun l => val_main_v12 (F := Ideal) x1 x2 x3 x8 x9 (ix3 b p l)) (fun l => x5 (ix1 l)) l := by
  have h : ∀ k, idx_main_v15 (idx_main_v16 (idx_main_v22 (ix3 b p l))) k = ix3 b p k := fun k => eq3 _ b p k rfl rfl rfl
  have g : idx_main_v24 (idx_main_v25 (ix3 b p l)) = ix1 l := eq1 _ l rfl
  rw [← rms_host]
  simp only [val_main_v26_apply, val_main_v23_apply, val_main_v22_apply, val_main_v21_apply, val_main_v20_apply, val_main_v19_apply,
    val_main_v18_apply, val_main_v17_apply, val_main_v16_apply, val_main_v15_apply, val_main_v14_apply, val_main_v25_apply,
    val_main_v24_apply, val_main_cst_apply, val_main_cst_0_apply, val_main_cst_1_apply, h, g]

theorem v42_at (l : Fin 1024) : val_main_v42 (F := Ideal) x0 x1 x2 x3 x4 x5 x6 x8 x9 (ix3 b p l)
    = rms (row1 x0 x1 x2 x3 x4 x5 x8 x9 b p) (fun l => x6 (ix1 l)) l := by
  have h : ∀ k, idx_main_v31 (idx_main_v32 (idx_main_v38 (ix3 b p l))) k = ix3 b p k := fun k => eq3 _ b p k rfl rfl rfl
  have g : idx_main_v40 (idx_main_v41 (ix3 b p l)) = ix1 l := eq1 _ l rfl
  rw [← rms_host]
  simp only [val_main_v42_apply, val_main_v39_apply, val_main_v38_apply, val_main_v37_apply, val_main_v36_apply, val_main_v35_apply,
    val_main_v34_apply, val_main_v33_apply, val_main_v32_apply, val_main_v31_apply, val_main_v30_apply, val_main_v41_apply,
    val_main_v40_apply, val_main_cst_2_apply, val_main_cst_3_apply, val_main_cst_4_apply, h, g]

theorem v68_at (l : Fin 1024) : val_main_v68 (F := Ideal) x0 x1 x2 x3 x4 x5 x6 x7 x8 x9 x10 x11 (ix3 b p l)
    = rms (fun l => val_main_v54 (F := Ideal) x0 x1 x2 x3 x4 x5 x6 x8 x9 x10 x11 (ix3 b p l)) (fun l => x7 (ix1 l)) l := by
  have h : ∀ k, idx_main_v57 (idx_main_v58 (idx_main_v64 (ix3 b p l))) k = ix3 b p k := fun k => eq3 _ b p k rfl rfl rfl
  have g : idx_main_v66 (idx_main_v67 (ix3 b p l)) = ix1 l := eq1 _ l rfl
  rw [← rms_host]
  simp only [val_main_v68_apply, val_main_v65_apply, val_main_v64_apply, val_main_v63_apply, val_main_v62_apply, val_main_v61_apply,
    val_main_v60_apply, val_main_v59_apply, val_main_v58_apply, val_main_v57_apply, val_main_v56_apply, val_main_v67_apply,
    val_main_v66_apply, val_main_cst_6_apply, val_main_cst_7_apply, val_main_cst_8_apply, h, g]

/-! ### The modulation's rows -/

theorem v27_at (l : Fin 1024) : val_main_v27 (F := Ideal) x4 (ix3 b p l) = modRow x4 b 2 l := by
  rw [val_main_v27_apply, val_main_v13_apply, val_main_v2_apply]
  exact congrArg x4 (eq2 _ _ _ rfl (Fin.ext rfl))

theorem v49_at (l : Fin 1024) : val_main_v49 (F := Ideal) x4 (ix3 b p l) = modRow x4 b 3 l := by
  rw [val_main_v49_apply, val_main_v48_apply, val_main_v3_apply]
  exact congrArg x4 (eq2 _ _ _ rfl (Fin.ext rfl))

theorem v46_at (l : Fin 1024) : val_main_v46 (F := Ideal) x4 (ix3 b p l) = (1 + modRow x4 b 4 l : EReal) := by
  rw [val_main_v46_apply, val_main_v45_apply, val_main_v44_apply, val_main_v43_apply, val_main_v4_apply, val_main_cst_5_apply]
  have o : (FloatOps.ofBits (F := Ideal) FTy.f32 0x3F800000#32 : EReal) = 1 := Ideal.ofBits_one_f32
  rw [o]
  exact congrArg (fun s : EReal => 1 + s) (congrArg x4 (eq2 _ _ _ rfl (Fin.ext rfl)))

theorem v69_at (l : Fin 1024) : val_main_v69 (F := Ideal) x4 (ix3 b p l) = modRow x4 b 5 l := by
  rw [val_main_v69_apply, val_main_v55_apply, val_main_v5_apply]
  exact congrArg x4 (eq2 _ _ _ rfl (Fin.ext rfl))

/-! ### The residuals -/

theorem v29_at (l : Fin 1024) : row1 x0 x1 x2 x3 x4 x5 x8 x9 b p l
    = mixed (fun l => x0 (ix3 b p l)) (fun d => x1 (ix3 b p d)) (fun l => x2 (ix3 b p l)) (fun l => x3 (ix3 b p l)) (modRow x4 b 2)
        (fun l => x5 (ix1 l)) (fun d l => x8 (ix2 d l)) (fun k l => x9 (ix2 k l)) l := by
  unfold row1
  rw [val_main_v29_apply, val_main_v28_apply, v27_at, v26_at]
  simp only [v12_at, v11_at]
  rfl

theorem v51_at (k : Fin 4096) : val_main_v51 (F := Ideal) x0 x1 x2 x3 x4 x5 x6 x8 x9 x10 (ix3 b p k)
    = times (modulated (row1 x0 x1 x2 x3 x4 x5 x8 x9 b p) (fun l => x6 (ix1 l)) (modRow x4 b 4) (modRow x4 b 3)) (fun l k => x10 (ix2 l k)) k := by
  rw [val_main_v51_apply]
  refine Finset.sum_congr rfl fun l _ => ?_
  rw [eq3 (lidx_main_v51 (ix3 b p k) l) b p l rfl rfl rfl, eq2 (ridx_main_v51 (ix3 b p k) l) l k rfl rfl, val_main_v50_apply, val_main_v47_apply,
    v42_at, v46_at, v49_at]
  rfl

theorem v54_at (l : Fin 1024) : val_main_v54 (F := Ideal) x0 x1 x2 x3 x4 x5 x6 x8 x9 x10 x11 (ix3 b p l)
    = times (squaredRelu fun k => val_main_v51 (F := Ideal) x0 x1 x2 x3 x4 x5 x6 x8 x9 x10 (ix3 b p k)) (fun k l => x11 (ix2 k l)) l := by
  have z0 : (FloatOps.ofBits (F := Ideal) FTy.f32 0#32 : EReal) = 0 := Ideal.ofBits_zero_f32
  rw [val_main_v54_apply]
  refine Finset.sum_congr rfl fun k _ => ?_
  rw [eq3 (lidx_main_v54 (ix3 b p l) k) b p k rfl rfl rfl, eq2 (ridx_main_v54 (ix3 b p l) k) k l rfl rfl, val_main_v53_apply,
    val_main_v52_apply, val_main_call0_v0_apply, val_main_call0_cst_apply, z0]
  rfl

/-- The reference's result at an index. -/
theorem v71_at (l : Fin 1024) : val_main_v71 (F := Ideal) x0 x1 x2 x3 x4 x5 x6 x7 x8 x9 x10 x11 (ix3 b p l)
    = post x0 x1 x2 x3 x4 x5 x6 x7 x8 x9 x10 x11 b p l := by
  rw [val_main_v71_apply, val_main_v70_apply, v69_at, v68_at]
  simp only [v54_at, v51_at]
  have e : row1 x0 x1 x2 x3 x4 x5 x8 x9 b p = _ := funext fun l => v29_at x0 x1 x2 x3 x4 x5 x8 x9 b p l
  rw [show val_main_v29 (F := Ideal) x0 x1 x2 x3 x4 x5 x8 x9 (ix3 b p l) = row1 x0 x1 x2 x3 x4 x5 x8 x9 b p l from rfl, e]
  rfl

end Cert.Proof.PostRef

end
-- ==== Proof.Pre.Row.lean ====
/-
  The part of the layer before its attention, one token at a time, in the terms of `Cert.Rows`: the modulated, normalized
  row, its input projection, the short causal convolution with its gate, and the three results. The idealized kernel and
  the reference are each proved to give these.
-/
module

public import proofs.«01_k».proof.Proof.Post.Row

@[expose] public section

noncomputable section

namespace Cert.Rows

open Idealize.ShloMosaic

/-- The convolution's sum at a channel, from the channel's weights and its values at the token and the two before it. -/
def conv3 (w0 w1 w2 back2 back1 here : EReal) : EReal := w0 * back2 + w1 * back1 + w2 * here

section
variable (x : Arr3 2 8192 1024) (md : Arr2 2 6144) (g : Arr1 1024) (w : Arr2 1024 5120) (cw : Arr2 3 512) (wp : Arr2 512 1024)
  (b : Fin 2)

/-- The token's row, normalized and modulated. -/
def entryRow (p : Fin 8192) : Fin 1024 → EReal :=
  modulated (fun l => x (ix3 b p l)) (fun l => g (ix1 l)) (modRow md b 1) (modRow md b 0)

/-- Its input projection, at one of the 5120 columns. -/
def proj (p : Fin 8192) (j : Fin 5120) : EReal := times (entryRow x md g b p) (fun k j => w (ix2 k j)) j

/-- What the convolution runs over: the product of the second and the third 512 columns. -/
def convIn (p : Fin 8192) (l : Fin 512) : EReal := proj x md g w b p ⟨512 + l.val, by omega⟩ * proj x md g w b p ⟨1024 + l.val, by omega⟩

/-- The same `n` tokens earlier, zero before the first. -/
def convBack (n : ℕ) (p : Fin 8192) (l : Fin 512) : EReal := if n ≤ p.val then convIn x md g w b ⟨p.val - n, by omega⟩ l else 0

/-- The gated convolution. -/
def convRow (p : Fin 8192) (l : Fin 512) : EReal :=
  proj x md g w b p ⟨l.val, by omega⟩
    * conv3 (cw (ix2 0 l)) (cw (ix2 1 l)) (cw (ix2 2 l)) (convBack x md g w b 2 p l) (convBack x md g w b 1 p l) (convIn x md g w b p l)

/-- The convolution's branch: projected, times the sigmoid of its gate. -/
def branchRow (p : Fin 8192) (l : Fin 1024) : EReal :=
  Ideal.logistic (proj x md g w b p ⟨3072 + l.val, by omega⟩) * times (convRow x md g w cw b p) (fun d l => wp (ix2 d l)) l

/-- The attention's gate. -/
def gateRow (p : Fin 8192) (l : Fin 1024) : EReal := Ideal.logistic (proj x md g w b p ⟨4096 + l.val, by omega⟩)

/-- The scaled queries, the keys and the values, side by side. -/
def qkvRow (p : Fin 8192) (j : Fin 1536) : EReal :=
  if j.val < 512 then proj x md g w b p ⟨1536 + j.val, by omega⟩ * Ideal.ofBits FTy.f32 0x3E000000#32
  else proj x md g w b p ⟨1536 + j.val, by omega⟩

end

end Cert.Rows

end
-- ==== Proof.Pre.Pay.lean ====
/-
  What the values the pre-mixer body computes hold at an index, at the ideal instance, in the terms of `Cert.Rows`.
-/
module

public import proofs.«01_k».proof.Proof.Gen.Kernel3Ideal.Value
public import proofs.«01_k».proof.Proof.Pre.Row

@[expose] public section

set_option maxRecDepth 16384

noncomputable section

namespace Cert.Proof.Pre

open Cert.Kernel3Ideal Cert.Kernel3Ideal.Gen Cert.Rows
open Idealize.ShloMosaic

/-- The modulated, normalized row. -/
theorem pay5_at (v0 v2 : Vec Ideal S1x1x1024 .f32) (v4 : Vec Ideal S1x512x1024 .f32) (v6 : Vec Ideal S1x1024 .f32) (r : Fin 512) (l : Fin 1024) :
    k0_pay5 v0 v2 v4 v6 (ix2 r l)
      = modulated (fun k => v4 (ix3 0 r k)) (fun k => v6 (ix2 0 k)) (fun k => v2 (ix3 0 0 k)) (fun k => v0 (ix3 0 0 k)) l := by
  pointwise [k0_pay5]; rfl

theorem pay6_at (v0 v2 : Vec Ideal S1x1x1024 .f32) (v4 : Vec Ideal S1x512x1024 .f32) (v6 : Vec Ideal S1x1024 .f32) (v27 : Vec Ideal S1024x1536 .bf16)
    (r : Fin 512) (j : Fin 1536) :
    k0_pay6 v0 v2 v4 v6 v27 (ix2 r j) = times (fun k => k0_pay5 v0 v2 v4 v6 (ix2 r k)) (fun k j => v27 (ix2 k j)) j := by
  unfold k0_pay6
  generalize k0_pay5 v0 v2 v4 v6 = h
  pointwise []; rfl

/-- The convolution's gate: the first 512 columns. -/
theorem pay7_at (v0 v2 : Vec Ideal S1x1x1024 .f32) (v4 : Vec Ideal S1x512x1024 .f32) (v6 : Vec Ideal S1x1024 .f32) (v27 : Vec Ideal S1024x1536 .bf16)
    (r l : Fin 512) : k0_pay7 v0 v2 v4 v6 v27 (ix2 r l) = k0_pay6 v0 v2 v4 v6 v27 (ix2 r ⟨l.val, by omega⟩) := by
  unfold k0_pay7
  generalize k0_pay6 v0 v2 v4 v6 v27 = h
  pointwise []

/-- What the convolution runs over. -/
theorem pay8_at (v0 v2 : Vec Ideal S1x1x1024 .f32) (v4 : Vec Ideal S1x512x1024 .f32) (v6 : Vec Ideal S1x1024 .f32) (v27 : Vec Ideal S1024x1536 .bf16)
    (r l : Fin 512) : k0_pay8 v0 v2 v4 v6 v27 (ix2 r l)
      = (k0_pay6 v0 v2 v4 v6 v27 (ix2 r ⟨512 + l.val, by omega⟩) * k0_pay6 v0 v2 v4 v6 v27 (ix2 r ⟨1024 + l.val, by omega⟩) : EReal) := by
  unfold k0_pay8
  generalize k0_pay6 v0 v2 v4 v6 v27 = h
  pointwise []

theorem pay9_at (r : Fin 8) (l : Fin 512) : (k0_pay9 (F := Ideal) (ix2 r l) : EReal) = 0 := by
  pointwise [k0_pay9]

theorem pay10_at (v : Vec Ideal S8x512 .f32) (r : Fin 8) (l : Fin 512) : k0_pay10 v (ix2 r l) = v (ix2 r l) := by
  pointwise [k0_pay10]

theorem pay11_at (v : FVec Ideal S512x512 .f32) (r l : Fin 512) : k0_pay11 v (ix2 r l) = v (ix2 r l) := by
  pointwise [k0_pay11]

/-- The attention's gate. -/
theorem pay1_at (v26 : FVec Ideal S512x1024 .bf16) (v70 : Vec Ideal S1024x1024 .bf16) (r : Fin 512) (l : Fin 1024) :
    k0_pay1 v26 v70 (ix3 0 r l) = Ideal.logistic (times (fun k => v26 (ix2 r k)) (fun k j => v70 (ix2 k j)) l) := by
  pointwise [k0_pay1]; rfl

theorem pay2_at (v26 : FVec Ideal S512x1024 .bf16) (v78 : Vec Ideal S1024x1536 .bf16) (r : Fin 512) (j : Fin 1536) :
    k0_pay2 v26 v78 (ix2 r j) = times (fun k => v26 (ix2 r k)) (fun k j => v78 (ix2 k j)) j := by
  pointwise [k0_pay2]; rfl

/-- The queries, scaled. -/
theorem pay3_at (v26 : FVec Ideal S512x1024 .bf16) (v78 : Vec Ideal S1024x1536 .bf16) (r l : Fin 512) :
    k0_pay3 v26 v78 (ix3 0 r l)
      = (times (fun k => v26 (ix2 r k)) (fun k j => v78 (ix2 k j)) (⟨l.val, by omega⟩ : Fin 1536) * Ideal.ofBits FTy.f32 0x3E000000#32 : EReal) := by
  rw [← pay2_at]
  unfold k0_pay3
  generalize k0_pay2 v26 v78 = h
  pointwise []

/-- The keys and the values. -/
theorem pay4_at (v26 : FVec Ideal S512x1024 .bf16) (v78 : Vec Ideal S1024x1536 .bf16) (r : Fin 512) (l : Fin 1024) :
    k0_pay4 v26 v78 (ix3 0 r l)
      = times (fun k => v26 (ix2 r k)) (fun k j => v78 (ix2 k j)) (⟨512 + l.val, by omega⟩ : Fin 1536) := by
  rw [← pay2_at]
  unfold k0_pay4
  generalize k0_pay2 v26 v78 = h
  pointwise []

/-- The convolution's branch, from the values it reads one and two tokens back. -/
theorem pay12_at (v26 : FVec Ideal S512x1024 .bf16) (v30 v33 : FVec Ideal S512x512 .f32) (v43 v44 : Vec Ideal S512x512 .f32)
    (v45 v48 v52 : Vec Ideal S1x512 .f32) (v58 : Vec Ideal S512x1024 .bf16) (v61 : Vec Ideal S1024x1024 .bf16) (r : Fin 512) (l : Fin 1024) :
    k0_pay12 v26 v30 v33 v43 v44 v45 v48 v52 v58 v61 (ix3 0 r l)
      = (Ideal.logistic (times (fun k => v26 (ix2 r k)) (fun k j => v61 (ix2 k j)) l)
          * times (fun d => v30 (ix2 r d) * conv3 (v45 (ix2 0 d)) (v48 (ix2 0 d)) (v52 (ix2 0 d)) (v44 (ix2 r d)) (v43 (ix2 r d)) (v33 (ix2 r d)))
              (fun d j => v58 (ix2 d j)) l : EReal) := by
  pointwise [k0_pay12]; rfl

end Cert.Proof.Pre

end
-- ==== Proof.Pre.Blocks.lean ====
/-
  The blocks the pre-mixer body is handed, in coordinates of the arguments.
-/
module

public import proofs.«01_k».proof.Proof.Pre.Pay
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Proof.Pre

open Cert.Kernel3Ideal Cert.Kernel3Ideal.Gen Cert.Rows
open Idealize.ShloMosaic Idealize.ShloMosaic.Pipeline

/-! ### Where the blocks lie -/

theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![(grid0.coords t 0).val, 0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![0, 0] :=
  (by decide +kernel : ∀ t : Fin grid0.N, _)
theorem idx6 : ∀ t : Fin cfg0.N, win0_6.index t = ![(grid0.coords t 0).val, (grid0.coords t 1).val, 0] :=
  (by decide +kernel : ∀ t : Fin grid0.N, _)
theorem idx7 : ∀ t : Fin cfg0.N, win0_7.index t = ![(grid0.coords t 0).val, (grid0.coords t 1).val, 0] :=
  (by decide +kernel : ∀ t : Fin grid0.N, _)
theorem idx8 : ∀ t : Fin cfg0.N, win0_8.index t = ![(grid0.coords t 0).val, (grid0.coords t 1).val, 0] :=
  (by decide +kernel : ∀ t : Fin grid0.N, _)

/-- The batch a point works on. -/
abbrev bat (t : Fin cfg0.N) : Fin 2 := grid0.coords t 0

/-- The position of a row of a point's block. -/
def pos (t : Fin cfg0.N) (r : Fin 512) : Fin 8192 := ⟨512 * (grid0.coords t 1).val + r.val, by
  have : (grid0.coords t 1).val < 16 := (grid0.coords t 1).isLt
  omega⟩

variable (m : (ℓ : Loc nD τ sig) → Buf (Elt Ideal) ℓ)

/-! ### What the host operations before the region leave -/

theorem mod_at (c : Dev nD) (b : Fin 2) (n : Fin 6) (l : Fin 1024) :
    (V m c main_v0 : Vec Ideal S2x6x1024 .f32) (ix3 b n l) = modRow (m ((c.tc : Thread nD τ).loc main_arg1)) b n l := by
  unfold V
  simp only [hostOps0]
  after_reads_at
  unfold modRow
  refine congrArg (fun q => m ((c.tc : Thread nD τ).loc main_arg1) (ix2 b q)) (Fin.ext ?_)
  show n.val * 1024 + l.val = 1024 * n.val + l.val
  omega

theorem gain_at (c : Dev nD) (l : Fin 1024) :
    (V m c main_v1 : Vec Ideal S1x1024 .f32) (ix2 0 l) = m ((c.tc : Thread nD τ).loc main_arg2) (ix1 l) := by
  unfold V
  simp only [hostOps0]
  after_reads_at

theorem win_at (c : Dev nD) (k : Fin 1024) (j : Fin 5120) :
    (V m c main_v2 : Vec Ideal S1024x5120 .bf16) (ix2 k j) = m ((c.tc : Thread nD τ).loc main_arg3) (ix2 k j) := by
  unfold V
  simp only [hostOps0]
  after_reads_at

theorem wp_at (c : Dev nD) (d : Fin 512) (l : Fin 1024) :
    (V m c main_v3 : Vec Ideal S512x1024 .bf16) (ix2 d l) = m ((c.tc : Thread nD τ).loc main_arg5) (ix2 d l) := by
  unfold V
  simp only [hostOps0]
  after_reads_at

/-! ### The blocks at a point -/

theorem b0_at (c : Dev nD) (t : Fin cfg0.N) (r : Fin 512) (l : Fin 1024) :
    (iblk m c 0 t : Vec Ideal S1x512x1024 .f32) (ix3 0 r l) = m ((c.tc : Thread nD τ).loc main_arg0) (ix3 (bat t) (pos t r) l) := by
  unfold pos
  blk_ext [iblk, V, idx0 t]
  rfl

theorem b1_at (c : Dev nD) (t : Fin cfg0.N) (n : Fin 6) (l : Fin 1024) :
    (iblk m c 1 t : Vec Ideal S1x6x1024 .f32) (ix3 0 n l) = modRow (m ((c.tc : Thread nD τ).loc main_arg1)) (bat t) n l := by
  rw [← mod_at m c (bat t) n l]
  blk_ext [iblk, idx1 t]
  rfl

theorem b2_at (c : Dev nD) (t : Fin cfg0.N) (l : Fin 1024) :
    (iblk m c 2 t : Vec Ideal S1x1024 .f32) (ix2 0 l) = m ((c.tc : Thread nD τ).loc main_arg2) (ix1 l) := by
  rw [← gain_at m c l]
  blk_ext [iblk, idx2 t]

theorem b3_at (c : Dev nD) (t : Fin cfg0.N) (k : Fin 1024) (j : Fin 5120) :
    (iblk m c 3 t : Vec Ideal S1024x5120 .bf16) (ix2 k j) = m ((c.tc : Thread nD τ).loc main_arg3) (ix2 k j) := by
  rw [← win_at m c k j]
  blk_ext [iblk, idx3 t]

theorem b4_at (c : Dev nD) (t : Fin cfg0.N) (n : Fin 3) (l : Fin 512) :
    (iblk m c 4 t : Vec Ideal S3x512 .f32) (ix2 n l) = m ((c.tc : Thread nD τ).loc main_arg4) (ix2 n l) := by
  blk_ext [iblk, V, idx4 t]

theorem b5_at (c : Dev nD) (t : Fin cfg0.N) (d : Fin 512) (l : Fin 1024) :
    (iblk m c 5 t : Vec Ideal S512x1024 .bf16) (ix2 d l) = m ((c.tc : Thread nD τ).loc main_arg5) (ix2 d l) := by
  rw [← wp_at m c d l]
  blk_ext [iblk, idx5 t]

end Cert.Proof.Pre

end
-- ==== Proof.Pre.Carry.lean ====
/-
  The pre-mixer body at a point, in coordinates of the arguments. Its scratch holds eight rows, then the tile's 512 rows of the
  convolution's input; at every point the eight rows are the ones eight to one tokens before the tile, zero before the first.
-/
module

public import proofs.«01_k».proof.Proof.Pre.Blocks

@[expose] public section

set_option maxRecDepth 16384

noncomputable section

namespace Cert.Proof.Pre

open Cert.Kernel3Ideal Cert.Kernel3Ideal.Gen Cert.Rows
open Idealize.ShloMosaic Idealize.ShloMosaic.Pipeline

variable (m : (ℓ : Loc nD τ sig) → Buf (Elt Ideal) ℓ)

/-! ### `Cert.Rows` at the arguments -/

abbrev projM (c : Dev nD) : Fin 2 → Fin 8192 → Fin 5120 → EReal :=
  proj (m ((c.tc : Thread nD τ).loc main_arg0)) (m ((c.tc : Thread nD τ).loc main_arg1)) (m ((c.tc : Thread nD τ).loc main_arg2))
    (m ((c.tc : Thread nD τ).loc main_arg3))

abbrev convInM (c : Dev nD) : Fin 2 → Fin 8192 → Fin 512 → EReal :=
  convIn (m ((c.tc : Thread nD τ).loc main_arg0)) (m ((c.tc : Thread nD τ).loc main_arg1)) (m ((c.tc : Thread nD τ).loc main_arg2))
    (m ((c.tc : Thread nD τ).loc main_arg3))

abbrev convBackM (c : Dev nD) : Fin 2 → ℕ → Fin 8192 → Fin 512 → EReal :=
  convBack (m ((c.tc : Thread nD τ).loc main_arg0)) (m ((c.tc : Thread nD τ).loc main_arg1)) (m ((c.tc : Thread nD τ).loc main_arg2))
    (m ((c.tc : Thread nD τ).loc main_arg3))

/-! ### Loads through a rectangle -/

theorem ld_mod (x : Vec Ideal S1x6x1024 .f32) (n : ℕ) (hn : n < 6) (inb : ∀ a, (![0, n, 0] : Fin 3 → ℕ) a + (![1, 1, 1024] : Fin 3 → ℕ) a ≤ S1x6x1024.size a)
    (l : Fin 1024) : View.ld x (Rect.unit (s := S1x6x1024) ![0, n, 0] ![1, 1, 1024] inb) (ix3 0 0 l) = x (ix3 0 ⟨n, hn⟩ l) := by
  refine congrArg x (funext fun a => Fin.ext ?_)
  match a with
  | ⟨0, _⟩ => rfl
  | ⟨1, _⟩ => rfl
  | ⟨2, _⟩ => show 0 + 1 * l.val = l.val; omega

theorem ld_cols (x : Vec Ideal S1024x5120 .bf16) (o n : ℕ) (h : o + n ≤ 5120)
    (inb : ∀ a, (![0, o] : Fin 2 → ℕ) a + (![1024, n] : Fin 2 → ℕ) a ≤ S1024x5120.size a) (k : Fin 1024) (j : Fin n) :
    View.ld x (Rect.unit (s := S1024x5120) ![0, o] ![1024, n] inb) (ix2 k j) = x (ix2 k ⟨o + j.val, by omega⟩) := by
  refine congrArg x (funext fun a => Fin.ext ?_)
  match a with
  | ⟨0, _⟩ => show 0 + 1 * k.val = k.val; omega
  | ⟨1, _⟩ => show o + 1 * j.val = o + j.val; omega

theorem ld_tap (x : Vec Ideal S3x512 .f32) (n : ℕ) (hn : n < 3) (inb : ∀ a, (![n, 0] : Fin 2 → ℕ) a + (![1, 512] : Fin 2 → ℕ) a ≤ S3x512.size a)
    (l : Fin 512) : View.ld x (Rect.unit (s := S3x512) ![n, 0] ![1, 512] inb) (ix2 0 l) = x (ix2 ⟨n, hn⟩ l) := by
  refine congrArg x (funext fun a => Fin.ext ?_)
  match a with
  | ⟨0, _⟩ => rfl
  | ⟨1, _⟩ => show 0 + 1 * l.val = l.val; omega

theorem ld_tail (x : Vec Ideal S520x512 .f32) (inb : ∀ a, (![512, 0] : Fin 2 → ℕ) a + (![8, 512] : Fin 2 → ℕ) a ≤ S520x512.size a)
    (r : Fin 8) (l : Fin 512) : View.ld x (Rect.unit (s := S520x512) ![512, 0] ![8, 512] inb) (ix2 r l) = x (ix2 ⟨512 + r.val, by omega⟩ l) := by
  refine congrArg x (funext fun a => Fin.ext ?_)
  match a with
  | ⟨0, _⟩ => show 512 + 1 * r.val = 512 + r.val; omega
  | ⟨1, _⟩ => show 0 + 1 * l.val = l.val; omega

/-! ### The values a point computes from its blocks -/

/-- The tile's modulated rows. -/
abbrev hblk (c : Dev nD) (t : Fin cfg0.N) : FVec Ideal S512x1024 .bf16 :=
  k0_pay5 (View.ld (iblk m c 1 t) (Rect.unit ![0, 0, 0] ![1, 1, 1024] inb_S1x6x1024_S1x1x1024_0_0_0))
    (View.ld (iblk m c 1 t) (Rect.unit ![0, 1, 0] ![1, 1, 1024] inb_S1x6x1024_S1x1x1024_0_1_0)) (iblk m c 0 t) (iblk m c 2 t)

/-- The convolution's gate. -/
abbrev gblk (c : Dev nD) (t : Fin cfg0.N) : FVec Ideal S512x512 .f32 :=
  k0_pay7 (View.ld (iblk m c 1 t) (Rect.unit ![0, 0, 0] ![1, 1, 1024] inb_S1x6x1024_S1x1x1024_0_0_0))
    (View.ld (iblk m c 1 t) (Rect.unit ![0, 1, 0] ![1, 1, 1024] inb_S1x6x1024_S1x1x1024_0_1_0)) (iblk m c 0 t) (iblk m c 2 t)
    (View.ld (iblk m c 3 t) (Rect.unit ![0, 0] ![1024, 1536] inb_S1024x5120_S1024x1536_0_0))

/-- The convolution's input. -/
abbrev vblk (c : Dev nD) (t : Fin cfg0.N) : FVec Ideal S512x512 .f32 :=
  k0_pay8 (View.ld (iblk m c 1 t) (Rect.unit ![0, 0, 0] ![1, 1, 1024] inb_S1x6x1024_S1x1x1024_0_0_0))
    (View.ld (iblk m c 1 t) (Rect.unit ![0, 1, 0] ![1, 1, 1024] inb_S1x6x1024_S1x1x1024_0_1_0)) (iblk m c 0 t) (iblk m c 2 t)
    (View.ld (iblk m c 3 t) (Rect.unit ![0, 0] ![1024, 1536] inb_S1024x5120_S1024x1536_0_0))

theorem hblk_at (c : Dev nD) (t : Fin cfg0.N) (r : Fin 512) (k : Fin 1024) : hblk m c t (ix2 r k)
    = entryRow (m ((c.tc : Thread nD τ).loc main_arg0)) (m ((c.tc : Thread nD τ).loc main_arg1)) (m ((c.tc : Thread nD τ).loc main_arg2))
        (bat t) (pos t r) k := by
  have m0 := fun l => (ld_mod (iblk m c 1 t) 0 (by decide) inb_S1x6x1024_S1x1x1024_0_0_0 l).trans (b1_at m c t 0 l)
  have m1 := fun l => (ld_mod (iblk m c 1 t) 1 (by decide) inb_S1x6x1024_S1x1x1024_0_1_0 l).trans (b1_at m c t 1 l)
  unfold hblk
  rw [pay5_at]
  simp only [m0, m1, b0_at, b2_at]
  rfl

/-- The tile's projection at columns `o` to `o + n` of the weights. -/
theorem cols_at (c : Dev nD) (t : Fin cfg0.N) (o n : ℕ) (h : o + n ≤ 5120)
    (inb : ∀ a, (![0, o] : Fin 2 → ℕ) a + (![1024, n] : Fin 2 → ℕ) a ≤ S1024x5120.size a) (r : Fin 512) (j : Fin n) :
    times (fun k => hblk m c t (ix2 r k)) (fun k j => View.ld (iblk m c 3 t) (Rect.unit (s := S1024x5120) ![0, o] ![1024, n] inb) (ix2 k j)) j
      = projM m c (bat t) (pos t r) ⟨o + j.val, by omega⟩ := by
  unfold projM proj times
  refine Finset.sum_congr rfl fun k _ => ?_
  dsimp only
  rw [hblk_at, ld_cols (iblk m c 3 t) o n h inb k j, b3_at]

theorem gblk_at (c : Dev nD) (t : Fin cfg0.N) (r l : Fin 512) : gblk m c t (ix2 r l) = projM m c (bat t) (pos t r) ⟨l.val, by omega⟩ := by
  unfold gblk
  rw [pay7_at, pay6_at]
  refine (cols_at m c t 0 1536 (by decide) inb_S1024x5120_S1024x1536_0_0 r ⟨l.val, by omega⟩).trans ?_
  exact congrArg (projM m c (bat t) (pos t r)) (Fin.ext (Nat.zero_add l.val))

theorem vblk_at (c : Dev nD) (t : Fin cfg0.N) (r l : Fin 512) : vblk m c t (ix2 r l) = convInM m c (bat t) (pos t r) l := by
  unfold vblk
  rw [pay8_at, pay6_at, pay6_at]
  have e := cols_at m c t 0 1536 (by decide) inb_S1024x5120_S1024x1536_0_0 r
  refine congrArg₂ (fun s t : EReal => s * t) ((e ⟨512 + l.val, by omega⟩).trans ?_) ((e ⟨1024 + l.val, by omega⟩).trans ?_)
  · exact congrArg (projM m c (bat t) (pos t r)) (Fin.ext (Nat.zero_add _))
  · exact congrArg (projM m c (bat t) (pos t r)) (Fin.ext (Nat.zero_add _))

/-! ### The scratch -/

/-- Where a load or a store of whole rows of a matrix lies. -/
theorem rows_idx {N n L : ℕ} (o : ℕ) (inb : ∀ a, (![o, 0] : Fin 2 → ℕ) a + (![n, L] : Fin 2 → ℕ) a ≤ (⟨2, ![N, L]⟩ : Shape).size a)
    (q : Fin N) (r : Fin n) (l : Fin L) (h : q.val = o + r.val) :
    (Rect.unit (s := (⟨2, ![N, L]⟩ : Shape)) ![o, 0] ![n, L] inb).idx (ix2 r l) = ix2 q l := by
  refine funext fun a => Fin.ext ?_
  match a with
  | ⟨0, _⟩ => show o + 1 * r.val = q.val; omega
  | ⟨1, _⟩ => show 0 + 1 * l.val = l.val; omega

/-- Under the last store of whole rows stands what it stored; -/
theorem under_rows {N n L : ℕ} (o : ℕ) (inb : ∀ a, (![o, 0] : Fin 2 → ℕ) a + (![n, L] : Fin 2 → ℕ) a ≤ (⟨2, ![N, L]⟩ : Shape).size a)
    (w : (⟨2, ![n, L]⟩ : Shape).Idx → Elt Ideal .f32) (P : List (View.Piece (Elt Ideal) (⟨2, ![N, L]⟩ : Shape) .f32))
    (q : Fin N) (r : Fin n) (l : Fin L) (h : q.val = o + r.val) :
    View.canon ((⟨Rect.unit (s := (⟨2, ![N, L]⟩ : Shape)) ![o, 0] ![n, L] inb, w⟩ : View.Piece (Elt Ideal) (⟨2, ![N, L]⟩ : Shape) .f32) :: P) (ix2 q l)
      = w (ix2 r l) := by
  rw [← rows_idx o inb q r l h]
  exact View.canon_cons_emb (Rect.unit (s := (⟨2, ![N, L]⟩ : Shape)) ![o, 0] ![n, L] inb) w P (ix2 r l)

/-- above it, what stood before. -/
theorem above_rows {N n L : ℕ} (o : ℕ) (inb : ∀ a, (![o, 0] : Fin 2 → ℕ) a + (![n, L] : Fin 2 → ℕ) a ≤ (⟨2, ![N, L]⟩ : Shape).size a)
    (w : (⟨2, ![n, L]⟩ : Shape).Idx → Elt Ideal .f32) (P : List (View.Piece (Elt Ideal) (⟨2, ![N, L]⟩ : Shape) .f32))
    (q : Fin N) (l : Fin L) (h : q.val < o) :
    View.canon ((⟨Rect.unit (s := (⟨2, ![N, L]⟩ : Shape)) ![o, 0] ![n, L] inb, w⟩ : View.Piece (Elt Ideal) (⟨2, ![N, L]⟩ : Shape) .f32) :: P) (ix2 q l)
      = View.canon P (ix2 q l) := by
  refine View.canon_cons_of_not_mem _ P fun hm => ?_
  obtain ⟨j, _, e⟩ := (LoadRect.mem_set _).mp hm 0
  have e : q.val = o + 1 * j := e
  omega

section
variable (v : S512x512.Idx → Elt Ideal .f32) (w : S8x512.Idx → Elt Ideal .f32)

/-- The scratch's eight rows and the tile's rows below them. -/
abbrev stored : List (View.Piece (Elt Ideal) S520x512 .f32) :=
  [⟨Rect.unit (s := S520x512) ![8, 0] ![512, 512] inb_S520x512_S512x512_8_0, v⟩,
    ⟨Rect.unit (s := S520x512) ![0, 0] ![8, 512] inb_S520x512_S8x512_0_0, w⟩]

theorem stored_tile (q : Fin 520) (r l : Fin 512) (h : q.val = 8 + r.val) : View.canon (stored v w) (ix2 q l) = v (ix2 r l) :=
  under_rows 8 inb_S520x512_S512x512_8_0 v _ q r l h

theorem stored_head (q : Fin 520) (r : Fin 8) (l : Fin 512) (h : q.val = r.val) : View.canon (stored v w) (ix2 q l) = w (ix2 r l) :=
  (above_rows 8 inb_S520x512_S512x512_8_0 v _ q l (by omega)).trans (under_rows 0 inb_S520x512_S8x512_0_0 w [] q r l (by omega))

end

/-- The tile's rows, read `n` rows up through the scratch, are the convolution's input `n` tokens earlier. -/
theorem back_at (c : Dev nD) (t : Fin cfg0.N) (w : S8x512.Idx → Elt Ideal .f32) (v : S512x512.Idx → Elt Ideal .f32)
    (hv : ∀ r l, v (ix2 r l) = convInM m c (bat t) (pos t r) l)
    (hw : ∀ (r : Fin 8) l, w (ix2 r l) = convBackM m c (bat t) 8 (pos t ⟨r.val, by omega⟩) l) (o n : ℕ) (ho : o + n = 8)
    (inb : ∀ a, (![o, 0] : Fin 2 → ℕ) a + (![512, 512] : Fin 2 → ℕ) a ≤ S520x512.size a) (r l : Fin 512) :
    (View.whole cc0_scratch0).readCov (stored v w) (Rect.unit (s := S520x512) ![o, 0] ![512, 512] inb).toLoadRect (ix2 r l)
      = convBackM m c (bat t) n (pos t r) l := by
  rw [View.readCov_eq_canon']
  refine (congrArg (View.canon (stored v w)) (rows_idx o inb ⟨o + r.val, by omega⟩ r l rfl)).trans ?_
  unfold convBackM convBack
  by_cases h : n ≤ r.val
  · rw [stored_tile v w _ ⟨r.val - n, by omega⟩ l (by show o + r.val = 8 + (r.val - n); omega), hv, if_pos (by unfold pos; dsimp only; omega)]
    exact congrArg (fun p => convInM m c (bat t) p l) (Fin.ext (by unfold pos; dsimp only; omega))
  · rw [stored_head v w _ ⟨o + r.val, by omega⟩ l rfl, hw]
    unfold convBackM convBack
    by_cases h' : n ≤ (pos t r).val
    · have p : (pos t r).val = 512 * (grid0.coords t 1).val + r.val := rfl
      rw [if_pos h', if_pos (by unfold pos; dsimp only; omega)]
      exact congrArg (fun p => convInM m c (bat t) p l) (Fin.ext (by unfold pos; dsimp only; omega))
    · have p : (pos t r).val = 512 * (grid0.coords t 1).val + r.val := rfl
      rw [if_neg h', if_neg (by unfold pos; dsimp only; omega)]

/-! ### From a point to the next -/

theorem tile_eq : ∀ t : Fin cfg0.N, (grid0.coords t 1).val = t.val % 16 := (by decide +kernel : ∀ t : Fin grid0.N, _)

/-- The point before one that does not begin a batch. -/
abbrev before (t : Fin cfg0.N) : Fin cfg0.N := ⟨t.val - 1, lt_of_le_of_lt (Nat.sub_le _ _) t.isLt⟩

theorem bat_before : ∀ t : Fin cfg0.N, ¬ t.val % 16 = 0 → bat (before t) = bat t := (by decide +kernel : ∀ t : Fin grid0.N, _)

/-- The scratch's tile rows after a point are that point's. -/
theorem scratch_at (c : Dev nD) (t : Fin cfg0.N) (q : Fin 520) (r l : Fin 512) (h : q.val = 8 + r.val) :
    ((outsAt0 m c t.val t.isLt).2.2.2 : Vec Ideal S520x512 .f32) (ix2 q l) = convInM m c (bat t) (pos t r) l := by
  by_cases h0 : t.val % 16 = 0
  · rw [outsAt0_A m c t h0 (by omega)]
    dsimp only
    unfold sout0_A_0
    frame_out
    refine (stored_tile _ _ q r l h).trans ?_
    rw [pay11_at]
    exact vblk_at m c t r l
  · rw [outsAt0_B m c t h0 (by omega)]
    dsimp only
    unfold sout0_B_0
    frame_out
    refine (stored_tile _ _ q r l h).trans ?_
    rw [pay11_at]
    exact vblk_at m c t r l

/-- The eight rows at a point that begins a batch. -/
theorem head_first (c : Dev nD) (t : Fin cfg0.N) (h0 : t.val % 16 = 0) (r : Fin 8) (l : Fin 512) :
    k0_pay9 (F := Ideal) (ix2 r l) = convBackM m c (bat t) 8 (pos t ⟨r.val, by omega⟩) l := by
  rw [pay9_at]
  have p := tile_eq t
  exact (if_neg (by unfold pos; dsimp only; omega)).symm

/-- The eight rows at any other point. -/
theorem head_next (c : Dev nD) (t : Fin cfg0.N) (h0 : ¬ t.val % 16 = 0) (r : Fin 8) (l : Fin 512) :
    k0_pay10 (View.ld ((outsAt0 m c (before t).val (before t).isLt).2.2.2 : Vec Ideal S520x512 .f32)
        (Rect.unit (s := S520x512) ![512, 0] ![8, 512] inb_S520x512_S8x512_512_0)) (ix2 r l)
      = convBackM m c (bat t) 8 (pos t ⟨r.val, by omega⟩) l := by
  rw [pay10_at, ld_tail, scratch_at m c (before t) _ ⟨504 + r.val, by omega⟩ l (by show 512 + r.val = 8 + (504 + r.val); omega), bat_before t h0]
  have p := tile_eq t
  have p' := tile_eq (before t)
  have b : (before t).val = t.val - 1 := rfl
  unfold convBackM convBack
  rw [if_pos (by unfold pos; dsimp only; omega)]
  exact congrArg (fun p => convInM m c (bat t) p l) (Fin.ext (by unfold pos; dsimp only; omega))

end Cert.Proof.Pre

end
-- ==== Proof.Pre.Final.lean ====
/-
  The three blocks a point of the pre-mixer leaves, at an index, and the three result arrays: `Cert.Rows.qkvRow`, `branchRow` and
  `gateRow` of the arguments.
-/
module

public import proofs.«01_k».proof.Proof.Pre.Carry

@[expose] public section

set_option maxRecDepth 16384

noncomputable section

namespace Cert.Proof.Pre

open Cert.Kernel3Ideal Cert.Kernel3Ideal.Gen Cert.Rows
open Idealize.ShloMosaic Idealize.ShloMosaic.Pipeline

variable (m : (ℓ : Loc nD τ sig) → Buf (Elt Ideal) ℓ)

/-! ### The result arrays -/

/-- The queries, keys and values. -/
def Q (c : Dev nD) : Buf (Elt Ideal) ((c.tc : Thread nD τ).loc main_v4_0) :=
  fun i : S2x8192x1536.Idx => qkvRow (m ((c.tc : Thread nD τ).loc main_arg0)) (m ((c.tc : Thread nD τ).loc main_arg1))
    (m ((c.tc : Thread nD τ).loc main_arg2)) (m ((c.tc : Thread nD τ).loc main_arg3)) (i 0) (i 1) (i 2)

/-- The convolution's branch. -/
def Y (c : Dev nD) : Buf (Elt Ideal) ((c.tc : Thread nD τ).loc main_v4_1) :=
  fun i : S2x8192x1024.Idx => branchRow (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (i 0) (i 1) (i 2)

/-- The attention's gate. -/
def S (c : Dev nD) : Buf (Elt Ideal) ((c.tc : Thread nD τ).loc main_v4_2) :=
  fun i : S2x8192x1024.Idx => gateRow (m ((c.tc : Thread nD τ).loc main_arg0)) (m ((c.tc : Thread nD τ).loc main_arg1))
    (m ((c.tc : Thread nD τ).loc main_arg2)) (m ((c.tc : Thread nD τ).loc main_arg3)) (i 0) (i 1) (i 2)

/-! ### The values a point stores -/

theorem gate_block (c : Dev nD) (t : Fin cfg0.N) (r : Fin 512) (l : Fin 1024) :
    k0_pay1 (hblk m c t) (View.ld (iblk m c 3 t) (Rect.unit ![0, 4096] ![1024, 1024] inb_S1024x5120_S1024x1024_0_4096)) (ix3 0 r l)
      = S m c (ix3 (bat t) (pos t r) l) := by
  rw [pay1_at, cols_at m c t 4096 1024 (by decide) inb_S1024x5120_S1024x1024_0_4096 r l]
  rfl

theorem branch_block (c : Dev nD) (t : Fin cfg0.N) (back1 back2 : Vec Ideal S512x512 .f32)
    (h1 : ∀ r d, back1 (ix2 r d) = convBackM m c (bat t) 1 (pos t r) d) (h2 : ∀ r d, back2 (ix2 r d) = convBackM m c (bat t) 2 (pos t r) d)
    (r : Fin 512) (l : Fin 1024) :
    k0_pay12 (hblk m c t) (gblk m c t) (vblk m c t) back1 back2
        (View.ld (iblk m c 4 t) (Rect.unit ![0, 0] ![1, 512] inb_S3x512_S1x512_0_0))
        (View.ld (iblk m c 4 t) (Rect.unit ![1, 0] ![1, 512] inb_S3x512_S1x512_1_0))
        (View.ld (iblk m c 4 t) (Rect.unit ![2, 0] ![1, 512] inb_S3x512_S1x512_2_0)) (iblk m c 5 t)
        (View.ld (iblk m c 3 t) (Rect.unit ![0, 3072] ![1024, 1024] inb_S1024x5120_S1024x1024_0_3072)) (ix3 0 r l)
      = Y m c (ix3 (bat t) (pos t r) l) := by
  have c0 := fun d => (ld_tap (iblk m c 4 t) 0 (by decide) inb_S3x512_S1x512_0_0 d).trans (b4_at m c t 0 d)
  have c1 := fun d => (ld_tap (iblk m c 4 t) 1 (by decide) inb_S3x512_S1x512_1_0 d).trans (b4_at m c t 1 d)
  have c2 := fun d => (ld_tap (iblk m c 4 t) 2 (by decide) inb_S3x512_S1x512_2_0 d).trans (b4_at m c t 2 d)
  have gb := fun d => gblk_at m c t r d
  have vb := fun d => vblk_at m c t r d
  rw [pay12_at, cols_at m c t 3072 1024 (by decide) inb_S1024x5120_S1024x1024_0_3072 r l]
  generalize gblk m c t = gate at gb
  generalize vblk m c t = here at vb
  simp only [h1, h2, c0, c1, c2, gb, vb, b5_at]
  rfl

/-- The tile's rows as stored in the scratch. -/
theorem tile_at (c : Dev nD) (t : Fin cfg0.N) (r l : Fin 512) : k0_pay11 (vblk m c t) (ix2 r l) = convInM m c (bat t) (pos t r) l :=
  (pay11_at _ r l).trans (vblk_at m c t r l)

/-- Where a store of columns `o` to `o + n` of a one-row stack of matrices lies. -/
theorem cols_idx {R N n : ℕ} (o : ℕ) (inb : ∀ a, (![0, 0, o] : Fin 3 → ℕ) a + (![1, R, n] : Fin 3 → ℕ) a ≤ (⟨3, ![1, R, N]⟩ : Shape).size a)
    (r : Fin R) (j : Fin N) (l : Fin n) (h : j.val = o + l.val) :
    (Rect.unit (s := (⟨3, ![1, R, N]⟩ : Shape)) ![0, 0, o] ![1, R, n] inb).idx (ix3 0 r l) = ix3 0 r j := by
  refine funext fun a => Fin.ext ?_
  match a with
  | ⟨0, _⟩ => rfl
  | ⟨1, _⟩ => show 0 + 1 * r.val = r.val; omega
  | ⟨2, _⟩ => show o + 1 * l.val = j.val; omega

/-- Under the last store of whole columns stands what it stored; -/
theorem under_cols {R N n : ℕ} (o : ℕ) (inb : ∀ a, (![0, 0, o] : Fin 3 → ℕ) a + (![1, R, n] : Fin 3 → ℕ) a ≤ (⟨3, ![1, R, N]⟩ : Shape).size a)
    (w : (⟨3, ![1, R, n]⟩ : Shape).Idx → Elt Ideal .bf16) (P : List (View.Piece (Elt Ideal) (⟨3, ![1, R, N]⟩ : Shape) .bf16))
    (r : Fin R) (j : Fin N) (l : Fin n) (h : j.val = o + l.val) :
    View.canon ((⟨Rect.unit (s := (⟨3, ![1, R, N]⟩ : Shape)) ![0, 0, o] ![1, R, n] inb, w⟩ : View.Piece (Elt Ideal) (⟨3, ![1, R, N]⟩ : Shape) .bf16) :: P)
      (ix3 0 r j) = w (ix3 0 r l) := by
  rw [← cols_idx o inb r j l h]
  exact View.canon_cons_emb (Rect.unit (s := (⟨3, ![1, R, N]⟩ : Shape)) ![0, 0, o] ![1, R, n] inb) w P (ix3 0 r l)

/-- before it, what stood there. -/
theorem beside_cols {R N n : ℕ} (o : ℕ) (inb : ∀ a, (![0, 0, o] : Fin 3 → ℕ) a + (![1, R, n] : Fin 3 → ℕ) a ≤ (⟨3, ![1, R, N]⟩ : Shape).size a)
    (w : (⟨3, ![1, R, n]⟩ : Shape).Idx → Elt Ideal .bf16) (P : List (View.Piece (Elt Ideal) (⟨3, ![1, R, N]⟩ : Shape) .bf16))
    (r : Fin R) (j : Fin N) (h : j.val < o) :
    View.canon ((⟨Rect.unit (s := (⟨3, ![1, R, N]⟩ : Shape)) ![0, 0, o] ![1, R, n] inb, w⟩ : View.Piece (Elt Ideal) (⟨3, ![1, R, N]⟩ : Shape) .bf16) :: P)
      (ix3 0 r j) = View.canon P (ix3 0 r j) := by
  refine View.canon_cons_of_not_mem _ P fun hm => ?_
  obtain ⟨k, _, e⟩ := (LoadRect.mem_set _).mp hm 2
  have e : j.val = o + 1 * k := e
  omega

theorem qkv_block (c : Dev nD) (t : Fin cfg0.N) (r : Fin 512) (j : Fin 1536) :
    View.canon (Val := Elt Ideal) (s := S1x512x1536) (e := .bf16)
      [⟨Rect.unit (s := S1x512x1536) ![0, 0, 512] ![1, 512, 1024] inb_S1x512x1536_S1x512x1024_0_0_512,
          k0_pay4 (hblk m c t) (View.ld (iblk m c 3 t) (Rect.unit ![0, 1536] ![1024, 1536] inb_S1024x5120_S1024x1536_0_1536))⟩,
        ⟨Rect.unit (s := S1x512x1536) ![0, 0, 0] ![1, 512, 512] inb_S1x512x1536_S1x512x512_0_0_0,
          k0_pay3 (hblk m c t) (View.ld (iblk m c 3 t) (Rect.unit ![0, 1536] ![1024, 1536] inb_S1024x5120_S1024x1536_0_1536))⟩]
      (ix3 0 r j) = Q m c (ix3 (bat t) (pos t r) j) := by
  have e := cols_at m c t 1536 1536 (by decide) inb_S1024x5120_S1024x1536_0_1536 r
  show _ = qkvRow _ _ _ _ (bat t) (pos t r) j
  unfold qkvRow
  by_cases h : j.val < 512
  · rw [if_pos h]
    refine (beside_cols 512 inb_S1x512x1536_S1x512x1024_0_0_512 _ _ r j h).trans
      ((under_cols 0 inb_S1x512x1536_S1x512x512_0_0_0 _ [] r j ⟨j.val, h⟩ (by simp)).trans ?_)
    rw [pay3_at, e]
  · rw [if_neg h]
    refine (under_cols 512 inb_S1x512x1536_S1x512x1024_0_0_512 _ _ r j ⟨j.val - 512, by omega⟩ (by show j.val = 512 + (j.val - 512); omega)).trans ?_
    rw [pay4_at, e]
    exact congrArg (projM m c (bat t) (pos t r)) (Fin.ext (by show 1536 + (512 + (j.val - 512)) = 1536 + j.val; omega))

/-! ### The blocks a point leaves -/

theorem outs6_at (c : Dev nD) (t : Fin cfg0.N) (r : Fin 512) (j : Fin 1536) :
    ((outsAt0 m c t.val t.isLt).1 : Vec Ideal S1x512x1536 .bf16) (ix3 0 r j) = Q m c (ix3 (bat t) (pos t r) j) := by
  by_cases h0 : t.val % 16 = 0
  · rw [outsAt0_A m c t h0 (by omega)]
    dsimp only
    unfold out0_A_6
    frame_out
    exact qkv_block m c t r j
  · rw [outsAt0_B m c t h0 (by omega)]
    dsimp only
    unfold out0_B_6
    frame_out
    exact qkv_block m c t r j

theorem outs7_at (c : Dev nD) (t : Fin cfg0.N) (r : Fin 512) (l : Fin 1024) :
    ((outsAt0 m c t.val t.isLt).2.1 : Vec Ideal S1x512x1024 .bf16) (ix3 0 r l) = Y m c (ix3 (bat t) (pos t r) l) := by
  by_cases h0 : t.val % 16 = 0
  · rw [outsAt0_A m c t h0 (by omega)]
    dsimp only
    unfold out0_A_7
    frame_out
    refine branch_block m c t _ _ (fun r d => ?_) (fun r d => ?_) r l
    · exact back_at m c t _ _ (tile_at m c t) (head_first m c t h0) 7 1 rfl inb_S520x512_S512x512_7_0 r d
    · exact back_at m c t _ _ (tile_at m c t) (head_first m c t h0) 6 2 rfl inb_S520x512_S512x512_6_0 r d
  · rw [outsAt0_B m c t h0 (by omega)]
    dsimp only
    unfold out0_B_7
    frame_out
    simp only [read_unread_whole]
    refine branch_block m c t _ _ (fun r d => ?_) (fun r d => ?_) r l
    · exact back_at m c t _ _ (tile_at m c t) (head_next m c t h0) 7 1 rfl inb_S520x512_S512x512_7_0 r d
    · exact back_at m c t _ _ (tile_at m c t) (head_next m c t h0) 6 2 rfl inb_S520x512_S512x512_6_0 r d

theorem outs8_at (c : Dev nD) (t : Fin cfg0.N) (r : Fin 512) (l : Fin 1024) :
    ((outsAt0 m c t.val t.isLt).2.2.1 : Vec Ideal S1x512x1024 .bf16) (ix3 0 r l) = S m c (ix3 (bat t) (pos t r) l) := by
  by_cases h0 : t.val % 16 = 0
  · rw [outsAt0_A m c t h0 (by omega)]
    dsimp only
    unfold out0_A_8
    frame_out
    exact gate_block m c t r l
  · rw [outsAt0_B m c t h0 (by omega)]
    dsimp only
    unfold out0_B_8
    frame_out
    exact gate_block m c t r l

/-! ### The arrays at the end -/

theorem final_6 (c : Dev nD) : (dats m 0 c).arrAt 6 cfg0.N = Q m c := by
  refine (dats m 0 c).arrAt_eq_of_covers 6 _ (by decide +kernel) fun t hf y => ?_
  have y0 : (y 0).val < 1 := (y 0).isLt
  blk_simp [iblk, idx6]
  rw [after0_6]
  have ey : y = ix3 (0 : Fin 1) (y 1 : Fin 512) (y 2 : Fin 1536) := funext fun a => Fin.ext (by
    match a with
    | ⟨0, _⟩ => show (y 0).val = 0; omega
    | ⟨1, _⟩ => rfl
    | ⟨2, _⟩ => rfl)
  refine (congrArg (outsAt0 m c t.val t.isLt).1 ey).trans ((outs6_at m c t (y 1) (y 2)).trans (congrArg (Q m c) (funext fun a => Fin.ext ?_)))
  match a with
  | ⟨0, _⟩ => blk_simp [idx6]
  | ⟨1, _⟩ => blk_simp [idx6]; exact congrArg (· + (y 1).val) (Nat.mul_comm 512 (grid0.coords t 1).val)
  | ⟨2, _⟩ => blk_simp [idx6]; rfl

theorem final_7 (c : Dev nD) : (dats m 0 c).arrAt 7 cfg0.N = Y m c := by
  refine (dats m 0 c).arrAt_eq_of_covers 7 _ (by decide +kernel) fun t hf y => ?_
  have y0 : (y 0).val < 1 := (y 0).isLt
  blk_simp [iblk, idx7]
  rw [after0_7]
  have ey : y = ix3 (0 : Fin 1) (y 1 : Fin 512) (y 2 : Fin 1024) := funext fun a => Fin.ext (by
    match a with
    | ⟨0, _⟩ => show (y 0).val = 0; omega
    | ⟨1, _⟩ => rfl
    | ⟨2, _⟩ => rfl)
  refine (congrArg (outsAt0 m c t.val t.isLt).2.1 ey).trans ((outs7_at m c t (y 1) (y 2)).trans (congrArg (Y m c) (funext fun a => Fin.ext ?_)))
  match a with
  | ⟨0, _⟩ => blk_simp [idx7]
  | ⟨1, _⟩ => blk_simp [idx7]; exact congrArg (· + (y 1).val) (Nat.mul_comm 512 (grid0.coords t 1).val)
  | ⟨2, _⟩ => blk_simp [idx7]; rfl

theorem final_8 (c : Dev nD) : (dats m 0 c).arrAt 8 cfg0.N = S m c := by
  refine (dats m 0 c).arrAt_eq_of_covers 8 _ (by decide +kernel) fun t hf y => ?_
  have y0 : (y 0).val < 1 := (y 0).isLt
  blk_simp [iblk, idx8]
  rw [after0_8]
  have ey : y = ix3 (0 : Fin 1) (y 1 : Fin 512) (y 2 : Fin 1024) := funext fun a => Fin.ext (by
    match a with
    | ⟨0, _⟩ => show (y 0).val = 0; omega
    | ⟨1, _⟩ => rfl
    | ⟨2, _⟩ => rfl)
  refine (congrArg (outsAt0 m c t.val t.isLt).2.2.1 ey).trans ((outs8_at m c t (y 1) (y 2)).trans (congrArg (S m c) (funext fun a => Fin.ext ?_)))
  match a with
  | ⟨0, _⟩ => blk_simp [idx8]
  | ⟨1, _⟩ => blk_simp [idx8]; exact congrArg (· + (y 1).val) (Nat.mul_comm 512 (grid0.coords t 1).val)
  | ⟨2, _⟩ => blk_simp [idx8]; rfl

end Cert.Proof.Pre

end
-- ==== Proof.Pre.Ref.lean ====
/-
  The reference's three results at an index are `Cert.Rows.qkvRow`, `branchRow` and `gateRow` of its arguments.
-/
module

public import proofs.«01_k».proof.Proof.Gen.Reference3Ideal.Read
public import proofs.«01_k».proof.Proof.Post.Ref
public import proofs.«01_k».proof.Proof.Pre.Row
public import Idealize.ShloMosaic.Lib.KernelVsHost

@[expose] public section

set_option maxRecDepth 16384

noncomputable section

namespace Cert.Proof.PreRef

open Cert.Reference3Ideal Cert.Reference3Ideal.Read Cert.Rows Cert.Proof.PostRef
open Idealize.ShloMosaic

variable (x0 : (⟨S2x8192x1024, .f32⟩ : BufTy).Contents (Elt Ideal)) (x1 : (⟨S2x6144, .f32⟩ : BufTy).Contents (Elt Ideal))
  (x2 : (⟨S1024, .f32⟩ : BufTy).Contents (Elt Ideal)) (x3 : (⟨S1024x5120, .f32⟩ : BufTy).Contents (Elt Ideal))
  (x4 : (⟨S3x512, .f32⟩ : BufTy).Contents (Elt Ideal)) (x5 : (⟨S512x1024, .f32⟩ : BufTy).Contents (Elt Ideal)) (b : Fin 2) (p : Fin 8192)

theorem v18_at (l : Fin 1024) : val_main_v18 (F := Ideal) x0 x2 (ix3 b p l) = rms (fun l => x0 (ix3 b p l)) (fun l => x2 (ix1 l)) l := by
  have h : ∀ k, idx_main_v7 (idx_main_v8 (idx_main_v14 (ix3 b p l))) k = ix3 b p k := fun k => eq3 _ b p k rfl rfl rfl
  have g : idx_main_v16 (idx_main_v17 (ix3 b p l)) = ix1 l := eq1 _ l rfl
  rw [← rms_host]
  simp only [val_main_v18_apply, val_main_v15_apply, val_main_v14_apply, val_main_v13_apply, val_main_v12_apply, val_main_v11_apply,
    val_main_v10_apply, val_main_v9_apply, val_main_v8_apply, val_main_v7_apply, val_main_v6_apply, val_main_v17_apply,
    val_main_v16_apply, val_main_cst_apply, val_main_cst_0_apply, val_main_cst_1_apply, h, g]

theorem v25_at (l : Fin 1024) : val_main_v25 (F := Ideal) x1 (ix3 b p l) = modRow x1 b 0 l := by
  rw [val_main_v25_apply, val_main_v24_apply, val_main_v0_apply]
  exact congrArg x1 (eq2 _ _ _ rfl (Fin.ext (by show l.val = 1024 * 0 + l.val; omega)))

theorem v22_at (l : Fin 1024) : val_main_v22 (F := Ideal) x1 (ix3 b p l) = (1 + modRow x1 b 1 l : EReal) := by
  rw [val_main_v22_apply, val_main_v21_apply, val_main_v20_apply, val_main_v19_apply, val_main_v1_apply, val_main_cst_2_apply]
  have o : (FloatOps.ofBits (F := Ideal) FTy.f32 0x3F800000#32 : EReal) = 1 := Ideal.ofBits_one_f32
  rw [o]
  exact congrArg (fun s : EReal => 1 + s) (congrArg x1 (eq2 _ _ _ rfl (Fin.ext rfl)))

/-- The input projection. -/
theorem v27_at (j : Fin 5120) : val_main_v27 (F := Ideal) x0 x1 x2 x3 (ix3 b p j) = proj x0 x1 x2 x3 b p j := by
  rw [val_main_v27_apply]
  unfold proj times
  refine Finset.sum_congr rfl fun k _ => ?_
  rw [eq3 (lidx_main_v27 (ix3 b p j) k) b p k rfl rfl rfl, eq2 (ridx_main_v27 (ix3 b p j) k) k j rfl rfl, val_main_v26_apply, val_main_v23_apply,
    v18_at, v22_at, v25_at]
  rfl

/-! ### Its columns -/

theorem v28_at (l : Fin 512) : val_main_v28 (F := Ideal) x0 x1 x2 x3 (ix3 b p l) = proj x0 x1 x2 x3 b p ⟨l.val, by omega⟩ := by
  rw [val_main_v28_apply, ← v27_at]
  exact congrArg _ (eq3 _ _ _ _ rfl rfl rfl)

theorem v31_at (l : Fin 512) : val_main_v31 (F := Ideal) x0 x1 x2 x3 (ix3 b p l) = proj x0 x1 x2 x3 b p ⟨1536 + l.val, by omega⟩ := by
  rw [val_main_v31_apply, ← v27_at]
  exact congrArg _ (eq3 _ _ _ _ rfl rfl rfl)

theorem v32_at (l : Fin 512) : val_main_v32 (F := Ideal) x0 x1 x2 x3 (ix3 b p l) = proj x0 x1 x2 x3 b p ⟨2048 + l.val, by omega⟩ := by
  rw [val_main_v32_apply, ← v27_at]
  exact congrArg _ (eq3 _ _ _ _ rfl rfl rfl)

theorem v33_at (l : Fin 512) : val_main_v33 (F := Ideal) x0 x1 x2 x3 (ix3 b p l) = proj x0 x1 x2 x3 b p ⟨2560 + l.val, by omega⟩ := by
  rw [val_main_v33_apply, ← v27_at]
  exact congrArg _ (eq3 _ _ _ _ rfl rfl rfl)

theorem v34_at (l : Fin 1024) : val_main_v34 (F := Ideal) x0 x1 x2 x3 (ix3 b p l) = proj x0 x1 x2 x3 b p ⟨3072 + l.val, by omega⟩ := by
  rw [val_main_v34_apply, ← v27_at]
  exact congrArg _ (eq3 _ _ _ _ rfl rfl rfl)

theorem v35_at (l : Fin 1024) : val_main_v35 (F := Ideal) x0 x1 x2 x3 (ix3 b p l) = proj x0 x1 x2 x3 b p ⟨4096 + l.val, by omega⟩ := by
  rw [val_main_v35_apply, ← v27_at]
  exact congrArg _ (eq3 _ _ _ _ rfl rfl rfl)

theorem v36_at (l : Fin 512) : val_main_v36 (F := Ideal) x0 x1 x2 x3 (ix3 b p l) = convIn x0 x1 x2 x3 b p l := by
  rw [val_main_v36_apply, val_main_v29_apply, val_main_v30_apply]
  unfold convIn
  rw [← v27_at, ← v27_at]
  exact congrArg₂ (fun s t : EReal => s * t) (congrArg _ (eq3 _ _ _ _ rfl rfl rfl)) (congrArg _ (eq3 _ _ _ _ rfl rfl rfl))

/-! ### The convolution -/

/-- The padded rows: two rows of zeros, then the rows. -/
theorem v37_at (q : Fin 8194) (l : Fin 512) : val_main_v37 (F := Ideal) x0 x1 x2 x3 (ix3 b q l)
    = if h : 2 ≤ q.val then convIn x0 x1 x2 x3 b ⟨q.val - 2, by omega⟩ l else (0 : EReal) := by
  unfold val_main_v37
  have e := fun p l => v36_at x0 x1 x2 x3 b p l
  generalize val_main_v36 (F := Ideal) x0 x1 x2 x3 = y at e
  simp only [← e]
  pointwise [val_main_call0_v0, val_main_c]
  have z : (FloatOps.sitofp (F := Ideal) FTy.f32 0#32 : EReal) = 0 := sitofp_zero
  by_cases h : 2 ≤ q.val
  · rw [dif_pos h, dif_pos ⟨h, by omega⟩]
  · rw [dif_neg h, dif_neg fun k => h k.1, z]

/-- The padded rows from the `2 - n`th on are the rows `n` tokens earlier. -/
theorem back_at (n : ℕ) (hn : n ≤ 2) (q : Fin 8194) (hq : q.val = p.val + (2 - n)) (l : Fin 512) :
    val_main_v37 (F := Ideal) x0 x1 x2 x3 (ix3 b q l) = convBack x0 x1 x2 x3 b n p l := by
  rw [v37_at]
  unfold convBack
  by_cases h : n ≤ p.val
  · rw [if_pos h, dif_pos (by omega)]
    exact congrArg (fun p => convIn x0 x1 x2 x3 b p l) (Fin.ext (by show q.val - 2 = p.val - n; omega))
  · rw [if_neg h, dif_neg (by omega)]

theorem v40_at (l : Fin 512) : val_main_v40 (F := Ideal) x0 x1 x2 x3 (ix3 b p l) = convBack x0 x1 x2 x3 b 2 p l := by
  rw [val_main_v40_apply, eq3 (idx_main_v40 (ix3 b p l)) b ⟨p.val, by omega⟩ l rfl rfl rfl, back_at x0 x1 x2 x3 b p 2 (le_refl 2) _ rfl]

theorem v48_at (l : Fin 512) : val_main_v48 (F := Ideal) x0 x1 x2 x3 (ix3 b p l) = convBack x0 x1 x2 x3 b 1 p l := by
  rw [val_main_v48_apply, eq3 (idx_main_v48 (ix3 b p l)) b ⟨1 + p.val, by omega⟩ l rfl rfl rfl,
    back_at x0 x1 x2 x3 b p 1 (by decide) _ (Nat.add_comm 1 p.val)]

theorem v55_at (l : Fin 512) : val_main_v55 (F := Ideal) x0 x1 x2 x3 (ix3 b p l) = convIn x0 x1 x2 x3 b p l := by
  rw [val_main_v55_apply, eq3 (idx_main_v55 (ix3 b p l)) b ⟨2 + p.val, by omega⟩ l rfl rfl rfl,
    back_at x0 x1 x2 x3 b p 0 (by decide) _ (Nat.add_comm 2 p.val)]
  exact if_pos (Nat.zero_le _)

theorem v42_at (l : Fin 512) : val_main_v42 (F := Ideal) x4 (ix3 b p l) = x4 (ix2 0 l) := by
  rw [val_main_v42_apply, val_main_v41_apply, val_main_v39_apply, val_main_v38_apply]
  exact congrArg x4 (eq2 _ _ _ rfl (Fin.ext (Nat.mod_eq_of_lt l.isLt)))

theorem v50_at (l : Fin 512) : val_main_v50 (F := Ideal) x4 (ix3 b p l) = x4 (ix2 1 l) := by
  rw [val_main_v50_apply, val_main_v49_apply, val_main_v47_apply, val_main_v46_apply]
  exact congrArg x4 (eq2 _ _ _ rfl (Fin.ext (Nat.mod_eq_of_lt l.isLt)))

theorem v57_at (l : Fin 512) : val_main_v57 (F := Ideal) x4 (ix3 b p l) = x4 (ix2 2 l) := by
  rw [val_main_v57_apply, val_main_v56_apply, val_main_v54_apply, val_main_v53_apply]
  exact congrArg x4 (eq2 _ _ _ rfl (Fin.ext (Nat.mod_eq_of_lt l.isLt)))

/-- The gated convolution. -/
theorem v60_at (l : Fin 512) : val_main_v60 (F := Ideal) x0 x1 x2 x3 x4 (ix3 b p l) = convRow x0 x1 x2 x3 x4 b p l := by
  rw [val_main_v60_apply, val_main_v59_apply, val_main_v52_apply, val_main_v45_apply, val_main_v44_apply, val_main_cst_3_apply, val_main_v43_apply,
    val_main_v51_apply, val_main_v58_apply, v28_at, v40_at, v48_at, v55_at, v42_at, v50_at, v57_at]
  have z : (FloatOps.ofBits (F := Ideal) FTy.f32 0#32 : EReal) = 0 := Ideal.ofBits_zero_f32
  unfold convRow conv3
  rw [z, ← zero_add ((x4 (ix2 0 l) : EReal) * convBack x0 x1 x2 x3 b 2 p l)]
  rfl

theorem v61_at (l : Fin 1024) : val_main_v61 (F := Ideal) x0 x1 x2 x3 x4 x5 (ix3 b p l)
    = times (convRow x0 x1 x2 x3 x4 b p) (fun d l => x5 (ix2 d l)) l := by
  rw [val_main_v61_apply]
  unfold times
  refine Finset.sum_congr rfl fun k _ => ?_
  rw [eq3 (lidx_main_v61 (ix3 b p l) k) b p k rfl rfl rfl, eq2 (ridx_main_v61 (ix3 b p l) k) k l rfl rfl, v60_at]

/-! ### The three results -/

/-- The sigmoid, spelled with negation, exponential, sum and quotient. -/
theorem logistic_host (s : EReal) :
    (FloatOps.hostDivf (F := Ideal) (FloatOps.ofBits FTy.f32 0x3F800000#32)
      (FloatOps.addf (FloatOps.ofBits FTy.f32 0x3F800000#32) (FloatOps.hostUnary (F := Ideal) (φ := .f32) .exp (FloatOps.hostNegf s))) : EReal)
      = Ideal.logistic s := by
  have o : (FloatOps.ofBits (F := Ideal) FTy.f32 0x3F800000#32 : EReal) = 1 := Ideal.ofBits_one_f32
  rw [o]
  rfl

theorem v73_at (l : Fin 1024) : val_main_v73 (F := Ideal) x0 x1 x2 x3 x4 x5 (ix3 b p l) = branchRow x0 x1 x2 x3 x4 x5 b p l := by
  rw [val_main_v73_apply, val_main_v72_apply, val_main_v71_apply, val_main_v70_apply, val_main_v69_apply, val_main_v68_apply, val_main_v67_apply,
    val_main_v66_apply, val_main_cst_5_apply, val_main_cst_6_apply, v61_at, v34_at, logistic_host]
  rfl

theorem v80_at (l : Fin 1024) : val_main_v80 (F := Ideal) x0 x1 x2 x3 (ix3 b p l) = gateRow x0 x1 x2 x3 b p l := by
  rw [val_main_v80_apply, val_main_v79_apply, val_main_v78_apply, val_main_v77_apply, val_main_v76_apply, val_main_v75_apply,
    val_main_v74_apply, val_main_cst_7_apply, val_main_cst_8_apply, v35_at, logistic_host]
  rfl

theorem v65_at (j : Fin 1536) : val_main_v65 (F := Ideal) x0 x1 x2 x3 (ix3 b p j) = qkvRow x0 x1 x2 x3 b p j := by
  rw [val_main_v65_apply]
  unfold val_main_v64
  have q := fun l => (val_main_v63_apply (F := Ideal) x0 x1 x2 x3 (ix3 b p l)).trans (congrArg₂ _ (v31_at x0 x1 x2 x3 b p l) ((val_main_v62_apply _).trans (val_main_cst_4_apply _)))
  have k := fun l => v32_at x0 x1 x2 x3 b p l
  have v := fun l => v33_at x0 x1 x2 x3 b p l
  generalize val_main_v63 (F := Ideal) x0 x1 x2 x3 = yq at q
  generalize val_main_v32 (F := Ideal) x0 x1 x2 x3 = yk at k
  generalize val_main_v33 (F := Ideal) x0 x1 x2 x3 = yv at v
  pointwise [q, k, v]
  unfold qkvRow
  by_cases h : j.val < 512
  · rw [dif_pos h, if_pos h]
  · rw [dif_neg h, if_neg h]
    by_cases h' : j.val - 512 < 512
    · rw [dif_pos h']
      exact congrArg (proj x0 x1 x2 x3 b p) (Fin.ext (by show 2048 + (j.val - 512) = 1536 + j.val; omega))
    · rw [dif_neg h']
      exact congrArg (proj x0 x1 x2 x3 b p) (Fin.ext (by show 2560 + (j.val - 512 - 512) = 1536 + j.val; omega))

end Cert.Proof.PreRef

end
-- ==== Proof.Mod.Row.lean ====
/-
  The modulation in mathematics: a layer's modulation vector of a batch, from the conditioning, the layer's matrix and its bias.
-/
module

public import proofs.«01_k».proof.Proof.Post.Row

@[expose] public section

noncomputable section

namespace Cert.Rows

open Idealize.ShloMosaic

/-- Entry `n` of layer `l`'s modulation vector of batch `b`: the conditioning's row against the matrix' column, and the bias. -/
def modulation (c : Vec Ideal ⟨2, ![2, 1024]⟩ .f32) (w : Vec Ideal ⟨3, ![2, 1024, 6144]⟩ .f32) (s : Vec Ideal ⟨2, ![2, 6144]⟩ .f32)
    (l b : Fin 2) (n : Fin 6144) : EReal :=
  (∑ d : Fin 1024, (w (ix3 l d n) : EReal) * c (ix2 b d)) + s (ix2 l n)

end Cert.Rows

end
-- ==== Proof.Mod.Blocks.lean ====
/-
  The modulation's call: the two rows its body stores at an index, the blocks it is handed in coordinates of the arguments, and
  the result array, `Cert.Rows.modulation` of the arguments.
-/
module

public import proofs.«01_k».proof.Proof.Gen.Kernel4Ideal.Frame
public import proofs.«01_k».proof.Proof.Mod.Row
public import Idealize.ShloMosaic.Lib.KernelVsHost
public import Idealize.ShloMosaic.Lib.Pipeline.ValueKit
public import Idealize.ShloMosaic.Lib.StableHlo.ReadAt

@[expose] public section

set_option maxRecDepth 16384

noncomputable section

namespace Cert.Proof.Mod

open Cert.Kernel4Ideal Cert.Kernel4Ideal.Gen Cert.Rows
open Idealize.ShloMosaic Idealize.ShloMosaic.Pipeline

/-! ### The stored rows -/

theorem pay2_at (w : Vec Ideal S1x1024x1536 .f32) (a : Vec Ideal S1024x1 .f32) (s : Vec Ideal S1x1x1536 .f32) (n : Fin 1536) :
    k0_pay2 w a s (ix3 0 0 n) = ((∑ d : Fin 1024, (w (ix3 0 d n) : EReal) * a (ix2 d 0)) + s (ix3 0 0 n) : EReal) := by
  pointwise [k0_pay2, k0_pay1]

theorem pay3_at (w : Vec Ideal S1x1024x1536 .f32) (a : Vec Ideal S1024x1 .f32) (s : Vec Ideal S1x1x1536 .f32) (n : Fin 1536) :
    k0_pay3 w a s (ix3 0 0 n) = ((∑ d : Fin 1024, (w (ix3 0 d n) : EReal) * a (ix2 d 0)) + s (ix3 0 0 n) : EReal) := pay2_at w a s n

/-! ### Where the blocks lie -/

theorem idx0 : ∀ t : Fin cfg0.N, win0_0.index t = ![0, 0] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val, 0, (grid0.coords t 1).val] :=
  (by decide +kernel : ∀ t : Fin grid0.N, _)
theorem idx3 : ∀ t : Fin cfg0.N, win0_3.index t = ![(grid0.coords t 0).val, 0, (grid0.coords t 1).val] :=
  (by decide +kernel : ∀ t : Fin grid0.N, _)

/-- The layer a point works on. -/
abbrev lay (t : Fin cfg0.N) : Fin 2 := grid0.coords t 0

/-- The position of a column of a point's block. -/
def col (t : Fin cfg0.N) (n : Fin 1536) : Fin 6144 := ⟨1536 * (grid0.coords t 1).val + n.val, by
  have : (grid0.coords t 1).val < 4 := (grid0.coords t 1).isLt
  omega⟩

variable (m : (ℓ : Loc nD τ sig) → Buf (Elt Ideal) ℓ)

/-! ### What the host operations before the region leave -/

theorem cond_at (c : Dev nD) (d : Fin 1024) (b : Fin 2) :
    (V m c main_v0 : Vec Ideal S1024x2 .f32) (ix2 d b) = m ((c.tc : Thread nD τ).loc main_arg0) (ix2 b d) := by
  unfold V
  simp only [hostOps0]
  after_reads_at

theorem bias_at (c : Dev nD) (l : Fin 2) (n : Fin 6144) :
    (V m c main_v1 : Vec Ideal S2x1x6144 .f32) (ix3 l 0 n) = m ((c.tc : Thread nD τ).loc main_arg2) (ix2 l n) := by
  unfold V
  simp only [hostOps0]
  after_reads_at

/-! ### The blocks at a point -/

theorem b0_at (c : Dev nD) (t : Fin cfg0.N) (d : Fin 1024) (b : Fin 2) :
    (iblk m c 0 t : Vec Ideal S1024x2 .f32) (ix2 d b) = m ((c.tc : Thread nD τ).loc main_arg0) (ix2 b d) := by
  rw [← cond_at m c d b]
  blk_ext [iblk, idx0 t]

theorem b1_at (c : Dev nD) (t : Fin cfg0.N) (d : Fin 1024) (n : Fin 1536) :
    (iblk m c 1 t : Vec Ideal S1x1024x1536 .f32) (ix3 0 d n) = m ((c.tc : Thread nD τ).loc main_arg1) (ix3 (lay t) d (col t n)) := by
  unfold col
  blk_ext [iblk, V, idx1 t]
  rfl

theorem b2_at (c : Dev nD) (t : Fin cfg0.N) (n : Fin 1536) :
    (iblk m c 2 t : Vec Ideal S1x1x1536 .f32) (ix3 0 0 n) = m ((c.tc : Thread nD τ).loc main_arg2) (ix2 (lay t) (col t n)) := by
  rw [← bias_at m c (lay t) (col t n)]
  unfold col
  blk_ext [iblk, idx2 t]
  rfl

/-- One column of the transposed conditioning, read through a rectangle. -/
theorem ld_col (x : Vec Ideal S1024x2 .f32) (b : ℕ) (hb : b < 2)
    (inb : ∀ a, (![0, b] : Fin 2 → ℕ) a + (![1024, 1] : Fin 2 → ℕ) a ≤ S1024x2.size a) (d : Fin 1024) :
    View.ld x (Rect.unit (s := S1024x2) ![0, b] ![1024, 1] inb) (ix2 d 0) = x (ix2 d ⟨b, hb⟩) := by
  refine congrArg x (funext fun a => Fin.ext ?_)
  match a with
  | ⟨0, _⟩ => show 0 + 1 * d.val = d.val; omega
  | ⟨1, _⟩ => rfl

/-! ### A stack of rows stored one row at a time -/

/-- Where a store of row `o` of a one-row stack of matrices lies. -/
theorem row_idx {R N : ℕ} (o : ℕ) (inb : ∀ a, (![0, o, 0] : Fin 3 → ℕ) a + (![1, 1, N] : Fin 3 → ℕ) a ≤ (⟨3, ![1, R, N]⟩ : Shape).size a)
    (r : Fin R) (n : Fin N) (h : r.val = o) :
    (Rect.unit (s := (⟨3, ![1, R, N]⟩ : Shape)) ![0, o, 0] ![1, 1, N] inb).idx (ix3 0 0 n) = ix3 0 r n := by
  refine funext fun a => Fin.ext ?_
  match a with
  | ⟨0, _⟩ => rfl
  | ⟨1, _⟩ => show o + 1 * 0 = r.val; omega
  | ⟨2, _⟩ => show 0 + 1 * n.val = n.val; omega

/-- On the row stored last stands what was stored; -/
theorem on_row {R N : ℕ} (o : ℕ) (inb : ∀ a, (![0, o, 0] : Fin 3 → ℕ) a + (![1, 1, N] : Fin 3 → ℕ) a ≤ (⟨3, ![1, R, N]⟩ : Shape).size a)
    (w : (⟨3, ![1, 1, N]⟩ : Shape).Idx → Elt Ideal .f32) (P : List (View.Piece (Elt Ideal) (⟨3, ![1, R, N]⟩ : Shape) .f32))
    (r : Fin R) (n : Fin N) (h : r.val = o) :
    View.canon ((⟨Rect.unit (s := (⟨3, ![1, R, N]⟩ : Shape)) ![0, o, 0] ![1, 1, N] inb, w⟩ : View.Piece (Elt Ideal) (⟨3, ![1, R, N]⟩ : Shape) .f32) :: P)
      (ix3 0 r n) = w (ix3 0 0 n) := by
  rw [← row_idx o inb r n h]
  exact View.canon_cons_emb (Rect.unit (s := (⟨3, ![1, R, N]⟩ : Shape)) ![0, o, 0] ![1, 1, N] inb) w P (ix3 0 0 n)

/-- on the others, what stood there. -/
theorem off_row {R N : ℕ} (o : ℕ) (inb : ∀ a, (![0, o, 0] : Fin 3 → ℕ) a + (![1, 1, N] : Fin 3 → ℕ) a ≤ (⟨3, ![1, R, N]⟩ : Shape).size a)
    (w : (⟨3, ![1, 1, N]⟩ : Shape).Idx → Elt Ideal .f32) (P : List (View.Piece (Elt Ideal) (⟨3, ![1, R, N]⟩ : Shape) .f32))
    (r : Fin R) (n : Fin N) (h : r.val < o) :
    View.canon ((⟨Rect.unit (s := (⟨3, ![1, R, N]⟩ : Shape)) ![0, o, 0] ![1, 1, N] inb, w⟩ : View.Piece (Elt Ideal) (⟨3, ![1, R, N]⟩ : Shape) .f32) :: P)
      (ix3 0 r n) = View.canon P (ix3 0 r n) := by
  refine View.canon_cons_of_not_mem _ P fun hm => ?_
  obtain ⟨k, _, e⟩ := (LoadRect.mem_set _).mp hm 1
  have e : r.val = o + 1 * k := e
  omega

/-! ### The result array -/

/-- The modulation vectors of both layers. -/
def M (c : Dev nD) : Buf (Elt Ideal) ((c.tc : Thread nD τ).loc main_v2) :=
  fun i : S2x2x6144.Idx => modulation (m ((c.tc : Thread nD τ).loc main_arg0)) (m ((c.tc : Thread nD τ).loc main_arg1))
    (m ((c.tc : Thread nD τ).loc main_arg2)) (i 0) (i 1) (i 2)

theorem outs_at (c : Dev nD) (t : Fin cfg0.N) (b : Fin 2) (n : Fin 1536) :
    (out0_3 (iblk m c 0 t) (iblk m c 1 t) (iblk m c 2 t) : Vec Ideal S1x2x1536 .f32) (ix3 0 b n) = M m c (ix3 (lay t) b (col t n)) := by
  have c0 := fun d => (ld_col (iblk m c 0 t) 0 (by decide) inb_S1024x2_S1024x1_0_0 d).trans (b0_at m c t d 0)
  have c1 := fun d => (ld_col (iblk m c 0 t) 1 (by decide) inb_S1024x2_S1024x1_0_1 d).trans (b0_at m c t d 1)
  unfold out0_3
  frame_out
  by_cases h : b.val < 1
  · obtain rfl : b = 0 := Fin.ext (by show b.val = 0; omega)
    refine (off_row 1 inb_S1x2x1536_S1x1x1536_0_1_0 _ _ 0 n h).trans ((on_row 0 inb_S1x2x1536_S1x1x1536_0_0_0 _ [] 0 n rfl).trans ?_)
    rw [pay2_at]
    simp only [c0, b1_at, b2_at]
    rfl
  · obtain rfl : b = 1 := Fin.ext (by show b.val = 1; omega)
    refine (on_row 1 inb_S1x2x1536_S1x1x1536_0_1_0 _ _ 1 n rfl).trans ?_
    rw [pay3_at]
    simp only [c1, b1_at, b2_at]
    rfl

theorem final_3 (c : Dev nD) : (dats m 0 c).arrAt 3 cfg0.N = M m c := by
  refine (dats m 0 c).arrAt_eq_of_covers 3 _ (by decide +kernel) fun t hf y => ?_
  have y0 : (y 0).val < 1 := (y 0).isLt
  blk_simp [iblk, idx3]
  rw [after0_3]
  have ey : y = ix3 (0 : Fin 1) (y 1 : Fin 2) (y 2 : Fin 1536) := funext fun a => Fin.ext (by
    match a with
    | ⟨0, _⟩ => show (y 0).val = 0; omega
    | ⟨1, _⟩ => rfl
    | ⟨2, _⟩ => rfl)
  refine (congrArg (out0_3 (iblk m c 0 t) (iblk m c 1 t) (iblk m c 2 t)) ey).trans
    ((outs_at m c t (y 1) (y 2)).trans (congrArg (M m c) (funext fun a => Fin.ext ?_)))
  match a with
  | ⟨0, _⟩ => blk_simp [idx3]
  | ⟨1, _⟩ => blk_simp [idx3]; rfl
  | ⟨2, _⟩ => blk_simp [idx3]; exact congrArg (· + (y 2).val) (Nat.mul_comm 1536 (grid0.coords t 1).val)

end Cert.Proof.Mod

end
-- ==== Proof.Mod.Ref.lean ====
/-
  The reference's modulation at an index is `Cert.Rows.modulation` of its arguments.
-/
module

public import proofs.«01_k».proof.Proof.Gen.Reference4Ideal.Read
public import proofs.«01_k».proof.Proof.Post.Ref
public import proofs.«01_k».proof.Proof.Mod.Row

@[expose] public section

set_option maxRecDepth 16384

noncomputable section

namespace Cert.Proof.ModRef

open Cert.Reference4Ideal Cert.Reference4Ideal.Read Cert.Rows Cert.Proof.PostRef
open Idealize.ShloMosaic

variable (x0 : (⟨S2x1024, .f32⟩ : BufTy).Contents (Elt Ideal)) (x1 : (⟨S2x1024x6144, .f32⟩ : BufTy).Contents (Elt Ideal))
  (x2 : (⟨S2x6144, .f32⟩ : BufTy).Contents (Elt Ideal)) (b : Fin 2) (n : Fin 6144)

/-! ### The two matrices and the two biases -/

theorem v1_at (d : Fin 1024) : val_main_v1 (F := Ideal) x1 (ix2 d n) = x1 (ix3 0 d n) := by
  rw [val_main_v1_apply, val_main_v0_apply]
  exact congrArg x1 (eq3 _ _ _ _ rfl (Fin.ext (by
    show (d.val * 6144 + n.val) / 6144 % 1024 = d.val
    omega)) (Fin.ext (by
    show (d.val * 6144 + n.val) % 6144 = n.val
    omega)))

theorem v9_at (d : Fin 1024) : val_main_v9 (F := Ideal) x1 (ix2 d n) = x1 (ix3 1 d n) := by
  rw [val_main_v9_apply, val_main_v8_apply]
  exact congrArg x1 (eq3 _ _ _ _ rfl (Fin.ext (by
    show (d.val * 6144 + n.val) / 6144 % 1024 = d.val
    omega)) (Fin.ext (by
    show (d.val * 6144 + n.val) % 6144 = n.val
    omega)))

theorem v6_at : val_main_v6 (F := Ideal) x2 (ix2 b n) = x2 (ix2 0 n) := by
  rw [val_main_v6_apply, val_main_v5_apply, val_main_v4_apply, val_main_v3_apply]
  exact congrArg x2 (eq2 _ _ _ rfl (Fin.ext (Nat.mod_eq_of_lt n.isLt)))

theorem v14_at : val_main_v14 (F := Ideal) x2 (ix2 b n) = x2 (ix2 1 n) := by
  rw [val_main_v14_apply, val_main_v13_apply, val_main_v12_apply, val_main_v11_apply]
  exact congrArg x2 (eq2 _ _ _ rfl (Fin.ext (Nat.mod_eq_of_lt n.isLt)))

/-! ### The two layers' vectors -/

theorem v7_at : val_main_v7 (F := Ideal) x0 x1 x2 (ix2 b n) = modulation x0 x1 x2 0 b n := by
  rw [val_main_v7_apply, val_main_v2_apply, v6_at]
  unfold modulation
  refine congrArg (fun s : EReal => s + x2 (ix2 0 n)) (Finset.sum_congr rfl fun d _ => ?_)
  rw [eq2 (lidx_main_v2 (ix2 b n) d) b d rfl rfl, eq2 (ridx_main_v2 (ix2 b n) d) d n rfl rfl, v1_at]
  exact mul_comm (x0 (ix2 b d) : EReal) _

theorem v15_at : val_main_v15 (F := Ideal) x0 x1 x2 (ix2 b n) = modulation x0 x1 x2 1 b n := by
  rw [val_main_v15_apply, val_main_v10_apply, v14_at]
  unfold modulation
  refine congrArg (fun s : EReal => s + x2 (ix2 1 n)) (Finset.sum_congr rfl fun d _ => ?_)
  rw [eq2 (lidx_main_v10 (ix2 b n) d) b d rfl rfl, eq2 (ridx_main_v10 (ix2 b n) d) d n rfl rfl, v9_at]
  exact mul_comm (x0 (ix2 b d) : EReal) _

theorem v16_at : val_main_v16 (F := Ideal) x0 x1 x2 (ix3 0 b n) = modulation x0 x1 x2 0 b n := by
  rw [val_main_v16_apply, eq2 (idx_main_v16 (ix3 0 b n)) b n rfl rfl, v7_at]

theorem v17_at : val_main_v17 (F := Ideal) x0 x1 x2 (ix3 0 b n) = modulation x0 x1 x2 1 b n := by
  rw [val_main_v17_apply, eq2 (idx_main_v17 (ix3 0 b n)) b n rfl rfl, v15_at]

/-- Both, stacked. -/
theorem v18_at (l : Fin 2) : val_main_v18 (F := Ideal) x0 x1 x2 (ix3 l b n) = modulation x0 x1 x2 l b n := by
  unfold val_main_v18
  have e0 := v16_at x0 x1 x2 b n
  have e1 := v17_at x0 x1 x2 b n
  generalize val_main_v16 (F := Ideal) x0 x1 x2 = y0 at e0
  generalize val_main_v17 (F := Ideal) x0 x1 x2 = y1 at e1
  by_cases h : l.val < 1
  · obtain rfl : l = 0 := Fin.ext (by show l.val = 0; omega)
    rw [← e0]
    pointwise []
  · obtain rfl : l = 1 := Fin.ext (by show l.val = 1; omega)
    rw [← e1]
    pointwise []

end Cert.Proof.ModRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.KB.Frame
public import proofs.«01_k».proof.Proof.KI.Frame
public import proofs.«01_k».proof.Proof.KI.Blocks
public import proofs.«01_k».proof.Proof.Ref
public import proofs.«01_k».proof.Proof.Post.Blocks
public import proofs.«01_k».proof.Proof.Post.Ref
public import proofs.«01_k».proof.Proof.Pre.Final
public import proofs.«01_k».proof.Proof.Pre.Ref
public import proofs.«01_k».proof.Proof.Mod.Blocks
public import proofs.«01_k».proof.Proof.Mod.Ref
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's run ends at the closed form of the attention too. -/
theorem ref_value (m : (ℓ : Loc Cert.ReferenceIdeal.nD Cert.ReferenceIdeal.τ Cert.ReferenceIdeal.sig) → Buf (Elt Ideal) ℓ)
    (c : Dev Cert.ReferenceIdeal.nD) (i : Cert.ReferenceIdeal.S2x8192x512.Idx) :
    Cert.ReferenceIdeal.Value.res_main_v29 m c i
      = Cert.Stick.attn (m ((c.tc : Thread Cert.ReferenceIdeal.nD Cert.ReferenceIdeal.τ).loc Cert.ReferenceIdeal.main_arg0)) (i 0) (i 1).val (i 2).val := by
  rw [Cert.ReferenceIdeal.Read.val_main_v29_eq]
  exact Ref.v29_at _ i

/-- The idealized kernel and the reference end at the same array. -/
theorem value : Cert.algebraic_KernelIdeal_ReferenceIdeal (hKernelIdeal := Cert.KernelIdeal.Gen.facts)
    (hReferenceIdeal := Cert.ReferenceIdeal.Gen.facts) := by
  intro m g m' g' _ hm
  refine ⟨fun c => KI.G m c, KI.run m g, (θ_run _ _ _).mono (fun r h c => ⟨(h c).1.trans ?_, (h c).2⟩) (Cert.ReferenceIdeal.Value.run m' g')⟩
  funext i
  refine (ref_value m' c i).trans ?_
  rw [hm c]
  rfl

/-- The call after the attention and its reference end at the same array: row by row, both are the closed form `post`. -/
theorem post_value : Cert.algebraic_Kernel2Ideal_Reference2Ideal (hKernel2Ideal := Cert.Kernel2Ideal.Gen.facts)
    (hReference2Ideal := Cert.Reference2Ideal.Gen.facts) := by
  intro m g m' g' _ hm
  refine ⟨fun c => Post.G m c,
    (θ_run _ _ _).mono (fun r h c => ⟨(h c).1.trans (Post.final_10 m c), (h c).2⟩) (Cert.Kernel2Ideal.Value.run_blocks m g),
    (θ_run _ _ _).mono (fun r h c => ⟨(h c).1.trans ?_, (h c).2⟩) (Cert.Reference2Ideal.Value.run m' g')⟩
  rw [Cert.Reference2Ideal.Read.val_main_v71_eq]
  obtain ⟨h0, h1, h2, h3, h4, h5, h6, h7, h8, h9, h10, h11⟩ := hm c
  rw [h0, h1, h2, h3, h4, h5, h6, h7, h8, h9, h10, h11]
  funext i
  have ei : i = ix3 (i 0 : Fin 2) (i 1 : Fin 8192) (i 2 : Fin 1024) := funext fun a => by
    match a with
    | ⟨0, _⟩ => rfl
    | ⟨1, _⟩ => rfl
    | ⟨2, _⟩ => rfl
  rw [ei]
  exact PostRef.v71_at _ _ _ _ _ _ _ _ _ _ _ _ _ _ _

/-- The call before the attention and its reference end at the same three arrays: row by row, the closed forms `qkvRow`, `branchRow`
and `gateRow`. -/
theorem pre_value : Cert.algebraic_Kernel3Ideal_Reference3Ideal (hKernel3Ideal := Cert.Kernel3Ideal.Gen.facts)
    (hReference3Ideal := Cert.Reference3Ideal.Gen.facts) := by
  intro m g m' g' _ hm
  refine ⟨fun c => Pre.Q m c, fun c => Pre.Y m c, fun c => Pre.S m c,
    (θ_run _ _ _).mono (fun r h c => ⟨(h c).1.trans ((Cert.Kernel3Ideal.Value.final6 m c).symm.trans (Pre.final_6 m c)),
      (h c).2.1.trans ((Cert.Kernel3Ideal.Value.final7 m c).symm.trans (Pre.final_7 m c)),
      (h c).2.2.1.trans ((Cert.Kernel3Ideal.Value.final8 m c).symm.trans (Pre.final_8 m c)), (h c).2.2.2⟩) (Cert.Kernel3Ideal.Value.run m g),
    (θ_run _ _ _).mono (fun r h c => ⟨(h c).1.trans ?_, (h c).2.1.trans ?_, (h c).2.2.1.trans ?_, (h c).2.2.2⟩)
      (Cert.Reference3Ideal.Value.run m' g')⟩
  · rw [Cert.Reference3Ideal.Read.val_main_v65_eq]
    obtain ⟨h0, h1, h2, h3, h4, h5⟩ := hm c
    rw [h0, h1, h2, h3]
    funext i
    rw [PostRef.eq3 i (i 0) (i 1) (i 2) rfl rfl rfl]
    exact PreRef.v65_at _ _ _ _ _ _ _
  · rw [Cert.Reference3Ideal.Read.val_main_v73_eq]
    obtain ⟨h0, h1, h2, h3, h4, h5⟩ := hm c
    rw [h0, h1, h2, h3, h4, h5]
    funext i
    rw [PostRef.eq3 i (i 0) (i 1) (i 2) rfl rfl rfl]
    exact PreRef.v73_at _ _ _ _ _ _ _ _ _
  · rw [Cert.Reference3Ideal.Read.val_main_v80_eq]
    obtain ⟨h0, h1, h2, h3, h4, h5⟩ := hm c
    rw [h0, h1, h2, h3]
    funext i
    rw [PostRef.eq3 i (i 0) (i 1) (i 2) rfl rfl rfl]
    exact PreRef.v80_at _ _ _ _ _ _ _

/-- The modulation's call and its reference end at the same array, the closed form `modulation`. -/
theorem mod_value : Cert.algebraic_Kernel4Ideal_Reference4Ideal (hKernel4Ideal := Cert.Kernel4Ideal.Gen.facts)
    (hReference4Ideal := Cert.Reference4Ideal.Gen.facts) := by
  intro m g m' g' _ hm
  refine ⟨fun c => Mod.M m c,
    (θ_run _ _ _).mono (fun r h c => ⟨(h c).1.trans (Mod.final_3 m c), (h c).2⟩) (Cert.Kernel4Ideal.Value.run_blocks m g),
    (θ_run _ _ _).mono (fun r h c => ⟨(h c).1.trans ?_, (h c).2⟩) (Cert.Reference4Ideal.Value.run m' g')⟩
  rw [Cert.Reference4Ideal.Read.val_main_v18_eq]
  obtain ⟨h0, h1, h2⟩ := hm c
  rw [h0, h1, h2]
  funext i
  rw [PostRef.eq3 i (i 0) (i 1) (i 2) rfl rfl rfl]
  exact ModRef.v18_at _ _ _ _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, by
  exact ⟨fun m ρ _ => KB.frame m ρ, fun m ρ _ => KI.frame m ρ,
    fun m ρ _ => (θ_run _ _ _).mono
      (fun r h => ⟨fun c => (h c).2, sem_eq_zero_of_no_sems (by decide) r.2⟩) (Cert.ReferenceIdeal.Value.run m ρ),
    fun m ρ _ => Cert.Kernel2.Gen.frame m ρ, fun m ρ _ => Cert.Kernel2Ideal.Gen.frame m ρ,
    fun m ρ _ => (θ_run _ _ _).mono
      (fun r h => ⟨fun c => (h c).2, sem_eq_zero_of_no_sems (by decide) r.2⟩) (Cert.Reference2Ideal.Value.run m ρ),
    fun m ρ _ => Cert.Kernel3.Gen.frame m ρ, fun m ρ _ => Cert.Kernel3Ideal.Gen.frame m ρ,
    fun m ρ _ => (θ_run _ _ _).mono
      (fun r h => ⟨fun c => (h c).2.2.2, sem_eq_zero_of_no_sems (by decide) r.2⟩) (Cert.Reference3Ideal.Value.run m ρ),
    fun m ρ _ => Cert.Kernel4.Gen.frame m ρ, fun m ρ _ => Cert.Kernel4Ideal.Gen.frame m ρ,
    fun m ρ _ => (θ_run _ _ _).mono
      (fun r h => ⟨fun c => (h c).2, sem_eq_zero_of_no_sems (by decide) r.2⟩) (Cert.Reference4Ideal.Value.run m ρ),
    IdealRules.named_const.statement Cert.KernelIdeal.κ "floor" .f32 0xC2B00000#32 ⊥ rfl, value, trivial, post_value, trivial, pre_value,
    trivial, mod_value⟩⟩

end Cert.Proof

end
